-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_table [hPre_ids_in_table : Cert.Pre_ids_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_table [hPre_ids_in_table : Cert.Pre_ids_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_ids_in_table [hKernelIdeal : Cert.KernelIdeal.Facts] [hPre_ids_in_table : Cert.Pre_ids_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_ids_in_table [hReferenceIdeal : Cert.ReferenceIdeal.Facts] [hPre_ids_in_table : Cert.Pre_ids_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_ids_in_table [hKernelIdeal : Cert.KernelIdeal.Facts] [hReferenceIdeal : Cert.ReferenceIdeal.Facts] [hPre_ids_in_table : Cert.Pre_ids_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_ids_in_table : Cert.Pre_ids_in_table.Facts),
    quiescent_Kernel (hKernel := hKernel)
    ∧ quiescent_KernelIdeal (hKernelIdeal := hKernelIdeal)
    ∧ quiescent_KernelIdeal_pre_ids_in_table (hKernelIdeal := hKernelIdeal) (hPre_ids_in_table := hPre_ids_in_table)
    ∧ quiescent_ReferenceIdeal (hReferenceIdeal := hReferenceIdeal)
    ∧ quiescent_ReferenceIdeal_pre_ids_in_table (hReferenceIdeal := hReferenceIdeal) (hPre_ids_in_table := hPre_ids_in_table)
    ∧ preserves_Kernel_KernelIdeal
    ∧ algebraic_KernelIdeal_ReferenceIdeal_pre_ids_in_table (hKernelIdeal := hKernelIdeal) (hReferenceIdeal := hReferenceIdeal) (hPre_ids_in_table := hPre_ids_in_table)
-- ==== Pre_ids_in_table.lean ====
abbrev S64x512x24 : Shape := ⟨3, ![64, 512, 24]⟩
abbrev S128x30 : Shape := ⟨2, ![128, 30]⟩
abbrev S50x30x2 : Shape := ⟨3, ![50, 30, 2]⟩
abbrev S50 : Shape := ⟨1, ![50]⟩
abbrev S50x30x3 : Shape := ⟨3, ![50, 30, 3]⟩
abbrev S50x30x4 : Shape := ⟨3, ![50, 30, 4]⟩
abbrev S_ : Shape := ⟨0, ![]⟩

class Facts : Prop where
  bcast_S_S64x512x24 : S_.BroadcastsInDim S64x512x24 (![] : Fin 0 → Fin S64x512x24.rank)

variable [Facts]

def fn {F : FTy → Type} [FloatOps F] (main_arg0 : IVec S64x512x24 32) (main_arg1 : FVec F S128x30 .f32) (main_arg2 : FVec F S50x30x2 .f32) (main_arg3 : FVec F S50 .f32) (main_arg4 : FVec F S50x30x3 .f32) (main_arg5 : FVec F S50 .f32) (main_arg6 : FVec F S50x30x4 .f32) (main_arg7 : FVec F S50 .f32) : IVec S64x512x24 1 :=
  let main_c : IVec S_ 32 := constantI S_ 32 0#32
  let main_v0 : IVec S64x512x24 32 := broadcastInDim S64x512x24 ![] bcast_S_S64x512x24 main_c
  let main_v1 : IVec S64x512x24 1 := cmpi .sge main_arg0 main_v0
  let main_c_0 : IVec S_ 32 := constantI S_ 32 128#32
  let main_v2 : IVec S64x512x24 32 := broadcastInDim S64x512x24 ![] bcast_S_S64x512x24 main_c_0
  let main_v3 : IVec S64x512x24 1 := cmpi .slt main_arg0 main_v2
  let main_v4 : IVec S64x512x24 1 := andi main_v1 main_v3
  main_v4
-- ==== Kernel.lean ====
abbrev S64x512x24 : Shape := ⟨3, ![64, 512, 24]⟩
abbrev S128x30 : Shape := ⟨2, ![128, 30]⟩
abbrev S50x30x2 : Shape := ⟨3, ![50, 30, 2]⟩
abbrev S50 : Shape := ⟨1, ![50]⟩
abbrev S50x30x3 : Shape := ⟨3, ![50, 30, 3]⟩
abbrev S50x30x4 : Shape := ⟨3, ![50, 30, 4]⟩
abbrev S_ : Shape := ⟨0, ![]⟩
abbrev S31x4 : Shape := ⟨2, ![31, 4]⟩
abbrev S31x2 : Shape := ⟨2, ![31, 2]⟩
abbrev S31x50 : Shape := ⟨2, ![31, 50]⟩
abbrev S50x30x1 : Shape := ⟨3, ![50, 30, 1]⟩
abbrev S50x30 : Shape := ⟨2, ![50, 30]⟩
abbrev S30x50 : Shape := ⟨2, ![30, 50]⟩
abbrev S1x50 : Shape := ⟨2, ![1, 50]⟩
abbrev S31x256 : Shape := ⟨2, ![31, 256]⟩
abbrev S1x31x256 : Shape := ⟨3, ![1, 31, 256]⟩
abbrev S2x31x256 : Shape := ⟨3, ![2, 31, 256]⟩
abbrev S128x31 : Shape := ⟨2, ![128, 31]⟩
abbrev S256x256 : Shape := ⟨2, ![256, 256]⟩
abbrev S128x256 : Shape := ⟨2, ![128, 256]⟩
abbrev S32x1024x24 : Shape := ⟨3, ![32, 1024, 24]⟩
abbrev S32768x150 : Shape := ⟨2, ![32768, 150]⟩
abbrev S1x1024x24 : Shape := ⟨3, ![1, 1024, 24]⟩
abbrev S1024x150 : Shape := ⟨2, ![1024, 150]⟩
abbrev S1024x24 : Shape := ⟨2, ![1024, 24]⟩
abbrev S24x1024 : Shape := ⟨2, ![24, 1024]⟩
abbrev S128x1024 : Shape := ⟨2, ![128, 1024]⟩
abbrev S1x1024 : Shape := ⟨2, ![1, 1024]⟩
abbrev S128x24576 : Shape := ⟨2, ![128, 24576]⟩
abbrev S256x24576 : Shape := ⟨2, ![256, 24576]⟩
abbrev S104x24576 : Shape := ⟨2, ![104, 24576]⟩
abbrev S104x1024 : Shape := ⟨2, ![104, 1024]⟩
abbrev S56x24576 : Shape := ⟨2, ![56, 24576]⟩
abbrev S56x1024 : Shape := ⟨2, ![56, 1024]⟩
abbrev S50x1024 : Shape := ⟨2, ![50, 1024]⟩
abbrev S150x1024 : Shape := ⟨2, ![150, 1024]⟩
abbrev S64x512x150 : Shape := ⟨3, ![64, 512, 150]⟩

abbrev nBuf : Space → Nat
  | .hbm => 98
  | .vmem => 8
  | .smem => 0
  | _ => 0

abbrev bufTy : (tb : Table) → Fin (tcTables nBuf tb) → BufTy
  | .hbm, ⟨0, _⟩ => ⟨S64x512x24, .i32⟩
  | .hbm, ⟨1, _⟩ => ⟨S128x30, .f32⟩
  | .hbm, ⟨2, _⟩ => ⟨S50x30x2, .f32⟩
  | .hbm, ⟨3, _⟩ => ⟨S50, .f32⟩
  | .hbm, ⟨4, _⟩ => ⟨S50x30x3, .f32⟩
  | .hbm, ⟨5, _⟩ => ⟨S50, .f32⟩
  | .hbm, ⟨6, _⟩ => ⟨S50x30x4, .f32⟩
  | .hbm, ⟨7, _⟩ => ⟨S50, .f32⟩
  | .hbm, ⟨8, _⟩ => ⟨S_, .f32⟩
  | .hbm, ⟨9, _⟩ => ⟨S31x4, .f32⟩
  | .hbm, ⟨10, _⟩ => ⟨S_, .f32⟩
  | .hbm, ⟨11, _⟩ => ⟨S31x2, .f32⟩
  | .hbm, ⟨12, _⟩ => ⟨S_, .f32⟩
  | .hbm, ⟨13, _⟩ => ⟨S31x50, .f32⟩
  | .hbm, ⟨14, _⟩ => ⟨S50x30x1, .f32⟩
  | .hbm, ⟨15, _⟩ => ⟨S50x30, .f32⟩
  | .hbm, ⟨16, _⟩ => ⟨S30x50, .f32⟩
  | .hbm, ⟨17, _⟩ => ⟨S1x50, .f32⟩
  | .hbm, ⟨18, _⟩ => ⟨S_, .f32⟩
  | .hbm, ⟨19, _⟩ => ⟨S1x50, .f32⟩
  | .hbm, ⟨20, _⟩ => ⟨S1x50, .f32⟩
  | .hbm, ⟨21, _⟩ => ⟨S31x50, .f32⟩
  | .hbm, ⟨22, _⟩ => ⟨S50x30x1, .f32⟩
  | .hbm, ⟨23, _⟩ => ⟨S50x30, .f32⟩
  | .hbm, ⟨24, _⟩ => ⟨S30x50, .f32⟩
  | .hbm, ⟨25, _⟩ => ⟨S1x50, .f32⟩
  | .hbm, ⟨26, _⟩ => ⟨S_, .f32⟩
  | .hbm, ⟨27, _⟩ => ⟨S1x50, .f32⟩
  | .hbm, ⟨28, _⟩ => ⟨S1x50, .f32⟩
  | .hbm, ⟨29, _⟩ => ⟨S31x50, .f32⟩
  | .hbm, ⟨30, _⟩ => ⟨S50x30x1, .f32⟩
  | .hbm, ⟨31, _⟩ => ⟨S50x30, .f32⟩
  | .hbm, ⟨32, _⟩ => ⟨S30x50, .f32⟩
  | .hbm, ⟨33, _⟩ => ⟨S1x50, .f32⟩
  | .hbm, ⟨34, _⟩ => ⟨S_, .f32⟩
  | .hbm, ⟨35, _⟩ => ⟨S1x50, .f32⟩
  | .hbm, ⟨36, _⟩ => ⟨S1x50, .f32⟩
  | .hbm, ⟨37, _⟩ => ⟨S31x50, .f32⟩
  | .hbm, ⟨38, _⟩ => ⟨S50x30x1, .f32⟩
  | .hbm, ⟨39, _⟩ => ⟨S50x30, .f32⟩
  | .hbm, ⟨40, _⟩ => ⟨S30x50, .f32⟩
  | .hbm, ⟨41, _⟩ => ⟨S1x50, .f32⟩
  | .hbm, ⟨42, _⟩ => ⟨S_, .f32⟩
  | .hbm, ⟨43, _⟩ => ⟨S1x50, .f32⟩
  | .hbm, ⟨44, _⟩ => ⟨S1x50, .f32⟩
  | .hbm, ⟨45, _⟩ => ⟨S31x50, .f32⟩
  | .hbm, ⟨46, _⟩ => ⟨S50x30x1, .f32⟩
  | .hbm, ⟨47, _⟩ => ⟨S50x30, .f32⟩
  | .hbm, ⟨48, _⟩ => ⟨S30x50, .f32⟩
  | .hbm, ⟨49, _⟩ => ⟨S1x50, .f32⟩
  | .hbm, ⟨50, _⟩ => ⟨S_, .f32⟩
  | .hbm, ⟨51, _⟩ => ⟨S1x50, .f32⟩
  | .hbm, ⟨52, _⟩ => ⟨S1x50, .f32⟩
  | .hbm, ⟨53, _⟩ => ⟨S31x50, .f32⟩
  | .hbm, ⟨54, _⟩ => ⟨S31x256, .f32⟩
  | .hbm, ⟨55, _⟩ => ⟨S50x30x1, .f32⟩
  | .hbm, ⟨56, _⟩ => ⟨S50x30, .f32⟩
  | .hbm, ⟨57, _⟩ => ⟨S30x50, .f32⟩
  | .hbm, ⟨58, _⟩ => ⟨S1x50, .f32⟩
  | .hbm, ⟨59, _⟩ => ⟨S_, .f32⟩
  | .hbm, ⟨60, _⟩ => ⟨S1x50, .f32⟩
  | .hbm, ⟨61, _⟩ => ⟨S1x50, .f32⟩
  | .hbm, ⟨62, _⟩ => ⟨S31x50, .f32⟩
  | .hbm, ⟨63, _⟩ => ⟨S50x30x1, .f32⟩
  | .hbm, ⟨64, _⟩ => ⟨S50x30, .f32⟩
  | .hbm, ⟨65, _⟩ => ⟨S30x50, .f32⟩
  | .hbm, ⟨66, _⟩ => ⟨S1x50, .f32⟩
  | .hbm, ⟨67, _⟩ => ⟨S_, .f32⟩
  | .hbm, ⟨68, _⟩ => ⟨S1x50, .f32⟩
  | .hbm, ⟨69, _⟩ => ⟨S1x50, .f32⟩
  | .hbm, ⟨70, _⟩ => ⟨S31x50, .f32⟩
  | .hbm, ⟨71, _⟩ => ⟨S50x30x1, .f32⟩
  | .hbm, ⟨72, _⟩ => ⟨S50x30, .f32⟩
  | .hbm, ⟨73, _⟩ => ⟨S30x50, .f32⟩
  | .hbm, ⟨74, _⟩ => ⟨S1x50, .f32⟩
  | .hbm, ⟨75, _⟩ => ⟨S_, .f32⟩
  | .hbm, ⟨76, _⟩ => ⟨S1x50, .f32⟩
  | .hbm, ⟨77, _⟩ => ⟨S1x50, .f32⟩
  | .hbm, ⟨78, _⟩ => ⟨S31x50, .f32⟩
  | .hbm, ⟨79, _⟩ => ⟨S50x30x1, .f32⟩
  | .hbm, ⟨80, _⟩ => ⟨S50x30, .f32⟩
  | .hbm, ⟨81, _⟩ => ⟨S30x50, .f32⟩
  | .hbm, ⟨82, _⟩ => ⟨S1x50, .f32⟩
  | .hbm, ⟨83, _⟩ => ⟨S_, .f32⟩
  | .hbm, ⟨84, _⟩ => ⟨S1x50, .f32⟩
  | .hbm, ⟨85, _⟩ => ⟨S1x50, .f32⟩
  | .hbm, ⟨86, _⟩ => ⟨S31x50, .f32⟩
  | .hbm, ⟨87, _⟩ => ⟨S31x256, .f32⟩
  | .hbm, ⟨88, _⟩ => ⟨S1x31x256, .f32⟩
  | .hbm, ⟨89, _⟩ => ⟨S1x31x256, .f32⟩
  | .hbm, ⟨90, _⟩ => ⟨S2x31x256, .f32⟩
  | .hbm, ⟨91, _⟩ => ⟨S_, .f32⟩
  | .hbm, ⟨92, _⟩ => ⟨S_, .f32⟩
  | .hbm, ⟨93, _⟩ => ⟨S128x31, .f32⟩
  | .hbm, ⟨94, _⟩ => ⟨S256x256, .f32⟩
  | .hbm, ⟨95, _⟩ => ⟨S32x1024x24, .i32⟩
  | .hbm, ⟨96, _⟩ => ⟨S32768x150, .f32⟩
  | .hbm, ⟨97, _⟩ => ⟨S64x512x150, .f32⟩
  | .local _ .vmem, ⟨0, _⟩ => ⟨S128x31, .f32⟩
  | .local _ .vmem, ⟨1, _⟩ => ⟨S2x31x256, .f32⟩
  | .local _ .vmem, ⟨2, _⟩ => ⟨S256x256, .f32⟩
  | .local _ .vmem, ⟨3, _⟩ => ⟨S1x1024x24, .i32⟩
  | .local _ .vmem, ⟨4, _⟩ => ⟨S1x1024x24, .i32⟩
  | .local _ .vmem, ⟨5, _⟩ => ⟨S256x256, .f32⟩
  | .local _ .vmem, ⟨6, _⟩ => ⟨S1024x150, .f32⟩
  | .local _ .vmem, ⟨7, _⟩ => ⟨S1024x150, .f32⟩
  | _, _ => ⟨S64x512x24, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_10 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_11 : Ref sig .tc := ⟨.hbm, 91, rfl⟩
abbrev main_call0_v0 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := .none

abbrev stage0_0 : Fin 1 → Memref sig .tc .vmem S128x31 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x1024x24 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x150 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S64x512x24 : Shape := ⟨3, ![64, 512, 24]⟩
abbrev S128x30 : Shape := ⟨2, ![128, 30]⟩
abbrev S50x30x2 : Shape := ⟨3, ![50, 30, 2]⟩
abbrev S50 : Shape := ⟨1, ![50]⟩
abbrev S50x30x3 : Shape := ⟨3, ![50, 30, 3]⟩
abbrev S50x30x4 : Shape := ⟨3, ![50, 30, 4]⟩
abbrev S32768x24 : Shape := ⟨2, ![32768, 24]⟩
abbrev S_ : Shape := ⟨0, ![]⟩
abbrev S32768x24x1 : Shape := ⟨3, ![32768, 24, 1]⟩
abbrev S32768x24x30 : Shape := ⟨3, ![32768, 24, 30]⟩
abbrev S32768x23x30 : Shape := ⟨3, ![32768, 23, 30]⟩
abbrev S50x30x1 : Shape := ⟨3, ![50, 30, 1]⟩
abbrev S50x30 : Shape := ⟨2, ![50, 30]⟩
abbrev S32768x23x50 : Shape := ⟨3, ![32768, 23, 50]⟩
abbrev S1x1x50 : Shape := ⟨3, ![1, 1, 50]⟩
abbrev S32768x50 : Shape := ⟨2, ![32768, 50]⟩
abbrev S32768x22x30 : Shape := ⟨3, ![32768, 22, 30]⟩
abbrev S32768x22x50 : Shape := ⟨3, ![32768, 22, 50]⟩
abbrev S32768x21x30 : Shape := ⟨3, ![32768, 21, 30]⟩
abbrev S32768x21x50 : Shape := ⟨3, ![32768, 21, 50]⟩
abbrev S32768x150 : Shape := ⟨2, ![32768, 150]⟩
abbrev S64x512x150 : Shape := ⟨3, ![64, 512, 150]⟩

abbrev nBuf : Space → Nat
  | .hbm => 86
  | .vmem => 0
  | .smem => 0
  | _ => 0

abbrev bufTy : (tb : Table) → Fin (tcTables nBuf tb) → BufTy
  | .hbm, ⟨0, _⟩ => ⟨S64x512x24, .i32⟩
  | .hbm, ⟨1, _⟩ => ⟨S128x30, .f32⟩
  | .hbm, ⟨2, _⟩ => ⟨S50x30x2, .f32⟩
  | .hbm, ⟨3, _⟩ => ⟨S50, .f32⟩
  | .hbm, ⟨4, _⟩ => ⟨S50x30x3, .f32⟩
  | .hbm, ⟨5, _⟩ => ⟨S50, .f32⟩
  | .hbm, ⟨6, _⟩ => ⟨S50x30x4, .f32⟩
  | .hbm, ⟨7, _⟩ => ⟨S50, .f32⟩
  | .hbm, ⟨8, _⟩ => ⟨S32768x24, .i32⟩
  | .hbm, ⟨9, _⟩ => ⟨S_, .i32⟩
  | .hbm, ⟨10, _⟩ => ⟨S32768x24, .i32⟩
  | .hbm, ⟨11, _⟩ => ⟨S32768x24, .i1⟩
  | .hbm, ⟨12, _⟩ => ⟨S_, .i32⟩
  | .hbm, ⟨13, _⟩ => ⟨S32768x24, .i32⟩
  | .hbm, ⟨14, _⟩ => ⟨S32768x24, .i32⟩
  | .hbm, ⟨15, _⟩ => ⟨S32768x24, .i32⟩
  | .hbm, ⟨16, _⟩ => ⟨S32768x24x1, .i32⟩
  | .hbm, ⟨17, _⟩ => ⟨S32768x24x30, .f32⟩
  | .hbm, ⟨18, _⟩ => ⟨S32768x23x30, .f32⟩
  | .hbm, ⟨19, _⟩ => ⟨S50x30x1, .f32⟩
  | .hbm, ⟨20, _⟩ => ⟨S50x30, .f32⟩
  | .hbm, ⟨21, _⟩ => ⟨S32768x23x50, .f32⟩
  | .hbm, ⟨22, _⟩ => ⟨S32768x23x30, .f32⟩
  | .hbm, ⟨23, _⟩ => ⟨S50x30x1, .f32⟩
  | .hbm, ⟨24, _⟩ => ⟨S50x30, .f32⟩
  | .hbm, ⟨25, _⟩ => ⟨S32768x23x50, .f32⟩
  | .hbm, ⟨26, _⟩ => ⟨S32768x23x50, .f32⟩
  | .hbm, ⟨27, _⟩ => ⟨S1x1x50, .f32⟩
  | .hbm, ⟨28, _⟩ => ⟨S32768x23x50, .f32⟩
  | .hbm, ⟨29, _⟩ => ⟨S32768x23x50, .f32⟩
  | .hbm, ⟨30, _⟩ => ⟨S_, .f32⟩
  | .hbm, ⟨31, _⟩ => ⟨S32768x23x50, .f32⟩
  | .hbm, ⟨32, _⟩ => ⟨S32768x23x50, .f32⟩
  | .hbm, ⟨33, _⟩ => ⟨S_, .f32⟩
  | .hbm, ⟨34, _⟩ => ⟨S32768x50, .f32⟩
  | .hbm, ⟨35, _⟩ => ⟨S32768x22x30, .f32⟩
  | .hbm, ⟨36, _⟩ => ⟨S50x30x1, .f32⟩
  | .hbm, ⟨37, _⟩ => ⟨S50x30, .f32⟩
  | .hbm, ⟨38, _⟩ => ⟨S32768x22x50, .f32⟩
  | .hbm, ⟨39, _⟩ => ⟨S32768x22x30, .f32⟩
  | .hbm, ⟨40, _⟩ => ⟨S50x30x1, .f32⟩
  | .hbm, ⟨41, _⟩ => ⟨S50x30, .f32⟩
  | .hbm, ⟨42, _⟩ => ⟨S32768x22x50, .f32⟩
  | .hbm, ⟨43, _⟩ => ⟨S32768x22x50, .f32⟩
  | .hbm, ⟨44, _⟩ => ⟨S32768x22x30, .f32⟩
  | .hbm, ⟨45, _⟩ => ⟨S50x30x1, .f32⟩
  | .hbm, ⟨46, _⟩ => ⟨S50x30, .f32⟩
  | .hbm, ⟨47, _⟩ => ⟨S32768x22x50, .f32⟩
  | .hbm, ⟨48, _⟩ => ⟨S32768x22x50, .f32⟩
  | .hbm, ⟨49, _⟩ => ⟨S1x1x50, .f32⟩
  | .hbm, ⟨50, _⟩ => ⟨S32768x22x50, .f32⟩
  | .hbm, ⟨51, _⟩ => ⟨S32768x22x50, .f32⟩
  | .hbm, ⟨52, _⟩ => ⟨S_, .f32⟩
  | .hbm, ⟨53, _⟩ => ⟨S32768x22x50, .f32⟩
  | .hbm, ⟨54, _⟩ => ⟨S32768x22x50, .f32⟩
  | .hbm, ⟨55, _⟩ => ⟨S_, .f32⟩
  | .hbm, ⟨56, _⟩ => ⟨S32768x50, .f32⟩
  | .hbm, ⟨57, _⟩ => ⟨S32768x21x30, .f32⟩
  | .hbm, ⟨58, _⟩ => ⟨S50x30x1, .f32⟩
  | .hbm, ⟨59, _⟩ => ⟨S50x30, .f32⟩
  | .hbm, ⟨60, _⟩ => ⟨S32768x21x50, .f32⟩
  | .hbm, ⟨61, _⟩ => ⟨S32768x21x30, .f32⟩
  | .hbm, ⟨62, _⟩ => ⟨S50x30x1, .f32⟩
  | .hbm, ⟨63, _⟩ => ⟨S50x30, .f32⟩
  | .hbm, ⟨64, _⟩ => ⟨S32768x21x50, .f32⟩
  | .hbm, ⟨65, _⟩ => ⟨S32768x21x50, .f32⟩
  | .hbm, ⟨66, _⟩ => ⟨S32768x21x30, .f32⟩
  | .hbm, ⟨67, _⟩ => ⟨S50x30x1, .f32⟩
  | .hbm, ⟨68, _⟩ => ⟨S50x30, .f32⟩
  | .hbm, ⟨69, _⟩ => ⟨S32768x21x50, .f32⟩
  | .hbm, ⟨70, _⟩ => ⟨S32768x21x50, .f32⟩
  | .hbm, ⟨71, _⟩ => ⟨S32768x21x30, .f32⟩
  | .hbm, ⟨72, _⟩ => ⟨S50x30x1, .f32⟩
  | .hbm, ⟨73, _⟩ => ⟨S50x30, .f32⟩
  | .hbm, ⟨74, _⟩ => ⟨S32768x21x50, .f32⟩
  | .hbm, ⟨75, _⟩ => ⟨S32768x21x50, .f32⟩
  | .hbm, ⟨76, _⟩ => ⟨S1x1x50, .f32⟩
  | .hbm, ⟨77, _⟩ => ⟨S32768x21x50, .f32⟩
  | .hbm, ⟨78, _⟩ => ⟨S32768x21x50, .f32⟩
  | .hbm, ⟨79, _⟩ => ⟨S_, .f32⟩
  | .hbm, ⟨80, _⟩ => ⟨S32768x21x50, .f32⟩
  | .hbm, ⟨81, _⟩ => ⟨S32768x21x50, .f32⟩
  | .hbm, ⟨82, _⟩ => ⟨S_, .f32⟩
  | .hbm, ⟨83, _⟩ => ⟨S32768x50, .f32⟩
  | .hbm, ⟨84, _⟩ => ⟨S32768x150, .f32⟩
  | .hbm, ⟨85, _⟩ => ⟨S64x512x150, .f32⟩
  | _, _ => ⟨S64x512x24, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_2 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_4 : Ref sig .tc := ⟨.hbm, 79, rfl⟩
abbrev main_v65 : Ref sig .tc := ⟨.hbm, 80, rfl⟩
abbrev main_v66 : Ref sig .tc := ⟨.hbm, 81, rfl⟩
abbrev main_cst_5 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩

abbrev nD : Nat := 1
abbrev τ : Topo := Topo.v7x

variable {F : FTy → Type} [FloatOps F]
-- ==== Proof.HostArrays.lean ====
module

public import proofs.«01_k».proof.Proof.Gen.KernelIdeal.Frame
public import Idealize.ShloMosaic.Lib.Pointwise
public import Idealize.ShloMosaic.Lib.Pipeline.ValueKit
public import Idealize.ShloMosaic.Lib.Claim
public import Idealize.ShloMosaic.Lib.StableHlo.ReadAt

/-! What the host leaves in the two arrays the first region reads: each column of the two blocks of weights
is one tap of one filter over its share of the bias, and the embedding gains a column of ones. -/

@[expose] public section

set_option maxRecDepth 16384

noncomputable section

namespace Cert.CharConv

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- One entry of a tap's column: the filter's weight at feature `d`, and below the thirty features the bias's share. -/
def tapEntry {k : ℕ} (W : FVec Ideal ⟨3, ![50, 30, k]⟩ .f32) (b : FVec Ideal ⟨1, ![50]⟩ .f32) (n : EReal) (t : Fin k) (f : Fin 50)
    (d : Fin 31) : EReal :=
  if h : d.val < 30 then W (ix3 f ⟨d.val, h⟩ t) else Ideal.div (b (ix1 f)) n

/-- An entry of the embedding extended by a column of ones. -/
def embEntry (e : FVec Ideal S128x30 .f32) (v : Fin 128) (d : Fin 31) : EReal :=
  if h : d.val < 30 then e (ix2 v ⟨d.val, h⟩) else 1

/-- In the first block of weights, columns 0 to 49 are the first tap of width three. -/
theorem col_first_width3 (c : Dev nD) (d : Fin 31) (f : Fin 50) :
    W2 m ρ c (Proc.devRef .tc main_v70) (ix3 0 d ⟨f.val, by omega⟩)
      = tapEntry (m ((c : Thread nD τ).loc main_arg4)) (m ((c : Thread nD τ).loc main_arg5)) (Ideal.ofBits .f32 1077936128#32) 0 f d := by
  rw [W2_of m ρ c main_v70 (by decide)]
  unfold_abbrev_sides
  after_reads_at
  after_reads_at
  rfl

/-- In the first block of weights, columns 50 to 99 are the first tap of width four. -/
theorem col_first_width4 (c : Dev nD) (d : Fin 31) (f : Fin 50) :
    W2 m ρ c (Proc.devRef .tc main_v70) (ix3 0 d ⟨50 + f.val, by omega⟩)
      = tapEntry (m ((c : Thread nD τ).loc main_arg6)) (m ((c : Thread nD τ).loc main_arg7)) (Ideal.ofBits .f32 1082130432#32) 0 f d := by
  rw [W2_of m ρ c main_v70 (by decide)]
  unfold_abbrev_sides
  after_reads_at
  after_reads_at
  rfl

/-- In the first block of weights, columns 104 to 153 are the third tap of width three. -/
theorem col_third_width3 (c : Dev nD) (d : Fin 31) (f : Fin 50) :
    W2 m ρ c (Proc.devRef .tc main_v70) (ix3 0 d ⟨104 + f.val, by omega⟩)
      = tapEntry (m ((c : Thread nD τ).loc main_arg4)) (m ((c : Thread nD τ).loc main_arg5)) (Ideal.ofBits .f32 1077936128#32) 2 f d := by
  rw [W2_of m ρ c main_v70 (by decide)]
  unfold_abbrev_sides
  after_reads_at
  after_reads_at
  have h0 : ¬ 104 + f.val < 50 := by omega
  have h1 : ¬ 104 + f.val - 50 < 50 := by omega
  have h2 : ¬ 104 + f.val - 50 - 50 < 4 := by omega
  have hl : 104 + f.val - 50 - 50 - 4 < 50 := by omega
  have e : 104 + f.val - 50 - 50 - 4 = f.val := by omega
  simp only [h0, h1, h2, hl, dite_true, dite_false]
  simp only [e]
  rfl

/-- In the first block of weights, columns 154 to 203 are the third tap of width four. -/
theorem col_third_width4 (c : Dev nD) (d : Fin 31) (f : Fin 50) :
    W2 m ρ c (Proc.devRef .tc main_v70) (ix3 0 d ⟨104 + (50 + f.val), by omega⟩)
      = tapEntry (m ((c : Thread nD τ).loc main_arg6)) (m ((c : Thread nD τ).loc main_arg7)) (Ideal.ofBits .f32 1082130432#32) 2 f d := by
  rw [W2_of m ρ c main_v70 (by decide)]
  unfold_abbrev_sides
  after_reads_at
  after_reads_at
  have h0 : ¬ 104 + (50 + f.val) < 50 := by omega
  have h1 : ¬ 104 + (50 + f.val) - 50 < 50 := by omega
  have h2 : ¬ 104 + (50 + f.val) - 50 - 50 < 4 := by omega
  have h3 : ¬ 104 + (50 + f.val) - 50 - 50 - 4 < 50 := by omega
  have hl : 104 + (50 + f.val) - 50 - 50 - 4 - 50 < 50 := by omega
  have e : 104 + (50 + f.val) - 50 - 50 - 4 - 50 = f.val := by omega
  simp only [h0, h1, h2, h3, hl, dite_true, dite_false]
  simp only [e]
  rfl

/-- In the first block of weights, columns 206 to 255 are the first tap of width two. -/
theorem col_first_width2 (c : Dev nD) (d : Fin 31) (f : Fin 50) :
    W2 m ρ c (Proc.devRef .tc main_v70) (ix3 0 d ⟨206 + f.val, by omega⟩)
      = tapEntry (m ((c : Thread nD τ).loc main_arg2)) (m ((c : Thread nD τ).loc main_arg3)) (Ideal.ofBits .f32 1073741824#32) 0 f d := by
  rw [W2_of m ρ c main_v70 (by decide)]
  unfold_abbrev_sides
  after_reads_at
  after_reads_at
  have h0 : ¬ 206 + f.val < 50 := by omega
  have h1 : ¬ 206 + f.val - 50 < 50 := by omega
  have h2 : ¬ 206 + f.val - 50 - 50 < 4 := by omega
  have h3 : ¬ 206 + f.val - 50 - 50 - 4 < 50 := by omega
  have h4 : ¬ 206 + f.val - 50 - 50 - 4 - 50 < 50 := by omega
  have h5 : ¬ 206 + f.val - 50 - 50 - 4 - 50 - 50 < 2 := by omega
  have e : 206 + f.val - 50 - 50 - 4 - 50 - 50 - 2 = f.val := by omega
  simp only [h0, h1, h2, h3, h4, h5, dite_true, dite_false]
  simp only [e]
  rfl

/-- In the second block of weights, columns 0 to 49 are the second tap of width three. -/
theorem col_second_width3 (c : Dev nD) (d : Fin 31) (f : Fin 50) :
    W2 m ρ c (Proc.devRef .tc main_v70) (ix3 1 d ⟨f.val, by omega⟩)
      = tapEntry (m ((c : Thread nD τ).loc main_arg4)) (m ((c : Thread nD τ).loc main_arg5)) (Ideal.ofBits .f32 1077936128#32) 1 f d := by
  rw [W2_of m ρ c main_v70 (by decide)]
  unfold_abbrev_sides
  after_reads_at
  after_reads_at
  rfl

/-- In the second block of weights, columns 50 to 99 are the second tap of width four. -/
theorem col_second_width4 (c : Dev nD) (d : Fin 31) (f : Fin 50) :
    W2 m ρ c (Proc.devRef .tc main_v70) (ix3 1 d ⟨50 + f.val, by omega⟩)
      = tapEntry (m ((c : Thread nD τ).loc main_arg6)) (m ((c : Thread nD τ).loc main_arg7)) (Ideal.ofBits .f32 1082130432#32) 1 f d := by
  rw [W2_of m ρ c main_v70 (by decide)]
  unfold_abbrev_sides
  after_reads_at
  after_reads_at
  rfl

/-- In the second block of weights, columns 104 to 153 are zero: width three has no fourth tap. -/
theorem col_zero_width3 (c : Dev nD) (d : Fin 31) (f : Fin 50) :
    W2 m ρ c (Proc.devRef .tc main_v70) (ix3 1 d ⟨104 + f.val, by omega⟩)
      = (0 : EReal) := by
  rw [W2_of m ρ c main_v70 (by decide)]
  unfold_abbrev_sides
  after_reads_at
  after_reads_at
  have h0 : ¬ 104 + f.val < 50 := by omega
  have h1 : ¬ 104 + f.val - 50 < 50 := by omega
  have h2 : ¬ 104 + f.val - 50 - 50 < 4 := by omega
  have hl : 104 + f.val - 50 - 50 - 4 < 50 := by omega
  have e : 104 + f.val - 50 - 50 - 4 = f.val := by omega
  simp only [h0, h1, h2, hl, dite_true, dite_false]
  rfl

/-- In the second block of weights, columns 154 to 203 are the fourth tap of width four. -/
theorem col_fourth_width4 (c : Dev nD) (d : Fin 31) (f : Fin 50) :
    W2 m ρ c (Proc.devRef .tc main_v70) (ix3 1 d ⟨104 + (50 + f.val), by omega⟩)
      = tapEntry (m ((c : Thread nD τ).loc main_arg6)) (m ((c : Thread nD τ).loc main_arg7)) (Ideal.ofBits .f32 1082130432#32) 3 f d := by
  rw [W2_of m ρ c main_v70 (by decide)]
  unfold_abbrev_sides
  after_reads_at
  after_reads_at
  have h0 : ¬ 104 + (50 + f.val) < 50 := by omega
  have h1 : ¬ 104 + (50 + f.val) - 50 < 50 := by omega
  have h2 : ¬ 104 + (50 + f.val) - 50 - 50 < 4 := by omega
  have h3 : ¬ 104 + (50 + f.val) - 50 - 50 - 4 < 50 := by omega
  have hl : 104 + (50 + f.val) - 50 - 50 - 4 - 50 < 50 := by omega
  have e : 104 + (50 + f.val) - 50 - 50 - 4 - 50 = f.val := by omega
  simp only [h0, h1, h2, h3, hl, dite_true, dite_false]
  simp only [e]
  rfl

/-- In the second block of weights, columns 206 to 255 are the second tap of width two. -/
theorem col_second_width2 (c : Dev nD) (d : Fin 31) (f : Fin 50) :
    W2 m ρ c (Proc.devRef .tc main_v70) (ix3 1 d ⟨206 + f.val, by omega⟩)
      = tapEntry (m ((c : Thread nD τ).loc main_arg2)) (m ((c : Thread nD τ).loc main_arg3)) (Ideal.ofBits .f32 1073741824#32) 1 f d := by
  rw [W2_of m ρ c main_v70 (by decide)]
  unfold_abbrev_sides
  after_reads_at
  after_reads_at
  have h0 : ¬ 206 + f.val < 50 := by omega
  have h1 : ¬ 206 + f.val - 50 < 50 := by omega
  have h2 : ¬ 206 + f.val - 50 - 50 < 4 := by omega
  have h3 : ¬ 206 + f.val - 50 - 50 - 4 < 50 := by omega
  have h4 : ¬ 206 + f.val - 50 - 50 - 4 - 50 < 50 := by omega
  have h5 : ¬ 206 + f.val - 50 - 50 - 4 - 50 - 50 < 2 := by omega
  have e : 206 + f.val - 50 - 50 - 4 - 50 - 50 - 2 = f.val := by omega
  simp only [h0, h1, h2, h3, h4, h5, dite_true, dite_false]
  simp only [e]
  rfl

/-- The extended embedding is the embedding with a column of ones. -/
theorem emb_ext (c : Dev nD) (v : Fin 128) (d : Fin 31) :
    W2 m ρ c (Proc.devRef .tc main_v71) (ix2 v d) = embEntry (m ((c : Thread nD τ).loc main_arg1)) v d := by
  unfold_abbrev_sides
  after_reads_at
  unfold embEntry
  refine dite_congr rfl (fun _ => rfl) (fun _ => ?_)
  exact Ideal.ofBits_one_f32

/-- Word `w` of block `i` of the identifiers is word `i * 1024 + w` of all the words. -/
theorem ids_blocked (c : Dev nD) (i : Fin 32) (w : Fin 1024) (p : Fin 24) :
    W4 m ρ c (Proc.devRef .tc main_v73) (ix3 i w p) = m ((c : Thread nD τ).loc main_arg0)
      (ix3 ⟨i.val * 2 + w.val / 512, by omega⟩ ⟨w.val % 512, by omega⟩ p) := by
  unfold_abbrev_sides
  after_reads_at
  exact congrFun (W3_args m ρ c main_arg0 (by decide)) _

/-- The result at a word is the main region's row of that word's number. -/
theorem result_rows (c : Dev nD) (B : Fin 64) (S : Fin 512) (f : Fin 150) :
    W6 m ρ c (Proc.devRef .tc main_v75) (ix3 B S f)
      = W5 m ρ c (Proc.devRef .tc main_v74) (ix2 ⟨B.val * 512 + S.val, by omega⟩ f) := by
  unfold_abbrev_sides
  after_reads_at

end Cert.CharConv
end
-- ==== Proof.MaxSum.lean ====
/-
  Two facts about extended reals and one-hot columns, free of any program.

  * `chainMax` is the maximum of finitely many values taken one after the other from the left; it is the maximum over
    the whole index set, started at the least element (`chainMax_eq_fold`), and a further `max · 0` may be taken of
    every value first (`chainMax_relu`).
  * A sum of values, each multiplied by 1 where its position is the given word and by 0 elsewhere, is the value at that
    word (`sum_oneHot_word`). Since `0 * x = 0` for every extended real `x`, no value needs to be finite.
-/
module

public import Idealize.ShloMosaic.Lib.Pointwise

@[expose] public section

noncomputable section

namespace Cert.CharConv

/-- The maximum of `f 0, f 1, …, f n`, taken from the left. -/
def chainMax : (n : ℕ) → (Fin (n + 1) → EReal) → EReal
  | 0, f => f 0
  | n + 1, f => max (chainMax n fun p => f p.castSucc) (f (Fin.last (n + 1)))

/-- The left-to-right maximum is the maximum over the whole index set, started at the least element. -/
theorem chainMax_eq_fold : ∀ (n : ℕ) (f : Fin (n + 1) → EReal),
    chainMax n f = Finset.univ.fold max ⊥ f
  | 0, f => by simp [chainMax]
  | n + 1, f => by
    have h : (Finset.univ.fold max ⊥ f : EReal) = Finset.univ.sup f := rfl
    have h' : (Finset.univ.fold max ⊥ (fun p : Fin (n + 1) => f p.castSucc) : EReal)
        = Finset.univ.sup fun p : Fin (n + 1) => f p.castSucc := rfl
    rw [chainMax, chainMax_eq_fold n, h', h]
    refine le_antisymm (max_le (Finset.sup_le fun p _ => Finset.le_sup (f := f) (Finset.mem_univ _))
      (Finset.le_sup (f := f) (Finset.mem_univ _))) (Finset.sup_le fun p _ => ?_)
    refine Fin.lastCases (le_max_right _ _) (fun q => le_max_of_le_left ?_) p
    exact Finset.le_sup (f := fun p : Fin (n + 1) => f p.castSucc) (Finset.mem_univ q)

/-- Taking `max · 0` after the maximum is taking it of every value before. -/
theorem chainMax_relu : ∀ (n : ℕ) (f : Fin (n + 1) → EReal),
    max (chainMax n f) 0 = chainMax n fun p => max (f p) 0
  | 0, _ => rfl
  | n + 1, f => by
    simp only [chainMax]
    rw [← chainMax_relu n, max_max_max_comm, max_self]

/-- Values picked by a one-hot column: the sum is the value at the position the word names. -/
theorem sum_oneHot_word (a : BitVec 32) (h : a.toNat < 128) (g : Fin 128 → EReal) :
    (∑ k : Fin 128, g k * (if BitVec.ofNat 32 k.val = a then 1 else 0)) = g ⟨a.toNat, h⟩ := by
  rw [Finset.sum_eq_single_of_mem (⟨a.toNat, h⟩ : Fin 128) (Finset.mem_univ _)]
  · simp
  · intro k _ hk
    rw [if_neg, mul_zero]
    rintro rfl
    exact hk (Fin.ext (by simp; omega))

end Cert.CharConv

end
-- ==== Proof.Body.lean ====
module

public import proofs.«01_k».proof.Proof.Gen.KernelIdeal
public import proofs.«01_k».proof.Proof.Gen.KernelIdeal.Skeleton
public import proofs.«01_k».proof.Proof.MaxSum
public import Idealize.ShloMosaic.Lib.Pipeline.Value

/-! The main region's body, piece by piece: the one-hot columns of a block's words, the product with the table, the
rotations that bring neighbouring positions together, and the maxima over the positions. -/

@[expose] public section

set_option maxRecDepth 16384

noncomputable section

namespace Cert.CharConv

open Idealize.ShloMosaic Cert.KernelIdeal Cert.KernelIdeal.Gen

/-- The one-hot chunk of position `p`: row `v`, lane `w` is 1 where word `w` has character `v` at position `p`. -/
def hot (v2 : IVec S24x1024 32) (p : Fin 24) : FVec Ideal S128x1024 .f32 := fun j =>
  if BitVec.ofNat 32 (j 0).val = v2 (ix2 p (j 1)) then 1 else 0

/-- Selecting 1 or 0 on the equality of two words. -/
theorem select_eq_one (a b : BitVec 32) :
    Scalar.select (IntOp.cmpi .eq a b) (1 : EReal) 0 = if a = b then 1 else 0 := by
  by_cases hc : a = b
  · rw [if_pos hc, hc]; simp [IntOp.cmpi, Scalar.select]
  · rw [if_neg hc]; simp [IntOp.cmpi, Scalar.select, hc, beq_eq_false_iff_ne.mpr hc]

/-- What the body writes for the chunk of position `p`: the row number compared with that position's ids, 1 or 0 selected. -/
def sel (v2 : IVec S24x1024 32) (p : ℕ) (h : S24x1024.Slices ![p, 0] S1x1024) : FVec Ideal S128x1024 .f32 :=
  select (cmpi .eq (iota .tc S128x1024 32 [0] iota_S128x1024_d0_w32) (broadcastTo S128x1024 (shapeCast S1x1024
      (extractStridedSlice S1x1024 ![p, 0] v2 h) shapeCasts_S1x1024_S1x1024) broadcasts_S1x1024_S128x1024))
    (broadcast S128x1024 (Scalar.ofBits (F := Ideal) .f32 0x3F800000#32))
    (broadcast S128x1024 (Scalar.ofBits (F := Ideal) .f32 0x00000000#32))

/-- It is the one-hot chunk. -/
theorem sel_eq (v2 : IVec S24x1024 32) (p : ℕ) (hp : p < 24) (h : S24x1024.Slices ![p, 0] S1x1024) :
    sel v2 p h = hot v2 ⟨p, hp⟩ := by
  funext j
  idx_vars j
  unfold hot sel
  pointwise
  exact select_eq_one _ _

/-- The 24 chunks side by side: row `v`, lane `L` is 1 where word `L % 1024` has character `v` at position `L / 1024`. -/
def hots (v2 : IVec S24x1024 32) : FVec Ideal S128x24576 .f32 := fun j =>
  if BitVec.ofNat 32 (j 0).val = v2 (ix2 ⟨(j 1).val / 1024, Nat.div_lt_of_lt_mul (j 1).isLt⟩
    ⟨(j 1).val % 1024, Nat.mod_lt _ (by decide)⟩) then 1 else 0

/-- The concatenation of the 24 chunks is `hots`. -/
theorem hots_eq (v2 : IVec S24x1024 32) (h) :
    concatenate S128x24576 1 (List.ofFn fun n : Fin 24 => (⟨S128x1024, hot v2 n⟩ : (s : Shape) × (s.Idx → Ideal .f32))) h = hots v2 := by
  funext j
  exact concatenate_ofFn_apply (t := S128x24576) (s₁ := S128x1024) 1 (fun n : Fin 24 => hot v2 n) h rfl 1024 rfl j
    ⟨(j 1).val / 1024, Nat.div_lt_of_lt_mul (j 1).isLt⟩ rfl (ix2 (j 0) ⟨(j 1).val % 1024, Nat.mod_lt _ (by decide)⟩) rfl
    (fun b hb => by match b with | ⟨0, _⟩ => rfl | ⟨1, _⟩ => exact absurd rfl hb)

/-- A rotation along 24576 lanes at an index: the lane `s` further, wrapping, where `n + s` is a full turn. -/
theorem rotate_lanes {R : ℕ} {α : Type} (A : (⟨2, ![R, 24576]⟩ : Shape).Idx → α) (n : BitVec 32) (s : ℕ)
    (hn : n.toNat + s = 24576) (h : (⟨2, ![R, 24576]⟩ : Shape).Rotates 1 none) (k : Fin R) (L : Fin 24576) :
    dynamicRotate 1 n none A h (ix2 k L) = A (ix2 k ⟨(L.val + s) % 24576, Nat.mod_lt _ (by decide)⟩) := by
  unfold dynamicRotate
  refine congrArg A (funext fun b => ?_)
  match b with
  | ⟨0, _⟩ => rfl
  | ⟨1, _⟩ =>
    refine Fin.ext ?_
    show (L.val + 24576 - (n.toNat + 0) % 24576) % 24576 = (L.val + s) % 24576
    omega

/-- The product over the table's two halves, of rows `A` and rows `B`. -/
def halvesDot (T : FVec Ideal S256x256 .f32) (A B : FVec Ideal S128x24576 .f32) : FVec Ideal S256x24576 .f32 :=
  matmul dot_S256x256_S256x24576_S256x24576_0_0_1_1_n_n none (shapeCast S256x256 T shapeCasts_S256x256_S256x256)
    (concatenate S256x24576 0 [⟨S128x24576, A⟩, ⟨S128x24576, B⟩]
      concatenates_S128x24576_S128x24576_S256x24576_d0) (constant S256x24576 .f32 0x00000000#32)

/-- That product at an index: one sum per half. -/
theorem halvesDot_apply (T : FVec Ideal S256x256 .f32) (A B : FVec Ideal S128x24576 .f32) (c : Fin 256) (L : Fin 24576) :
    halvesDot T A B (ix2 c L) = (∑ k : Fin 128, T (ix2 ⟨k.val, by omega⟩ c) * A (ix2 k L))
      + ∑ k : Fin 128, T (ix2 ⟨128 + k.val, by omega⟩ c) * B (ix2 k L) := by
  pointwise [halvesDot]

/-- The body's product over any 128 one-hot rows `A`: the table, transposed, times `A` over `A` rotated by one position. -/
def stackDot (T : FVec Ideal S256x256 .f32) (A : FVec Ideal S128x24576 .f32) : FVec Ideal S256x24576 .f32 :=
  halvesDot T A (dynamicRotate 1 23552#32 none A rotates_S128x24576_d1)

/-- For ids below 128, the product at row `c`, position `p`, word `w`: the entry of the table's first half for the word's
    character at `p` plus the entry of its second half for the character at the next position (wrapping at the end). -/
theorem stackDot_hots (v2 : IVec S24x1024 32) (hv : ∀ p w, (v2 (ix2 p w)).toNat < 128) (T : FVec Ideal S256x256 .f32)
    (c : Fin 256) (p p' : Fin 24) (hp : p'.val = (p.val + 1) % 24) (w : Fin 1024) (L : Fin 24576)
    (hL : L.val = p.val * 1024 + w.val) :
    stackDot T (hots v2) (ix2 c L) = T (ix2 ⟨(v2 (ix2 p w)).toNat, (hv p w).trans (by decide)⟩ c)
      + T (ix2 ⟨128 + (v2 (ix2 p' w)).toNat, Nat.add_lt_add_left (hv p' w) 128⟩ c) := by
  have e1 : ∀ k : Fin 128, hots v2 (ix2 k L) = if BitVec.ofNat 32 k.val = v2 (ix2 p w) then 1 else 0 := by
    intro k
    unfold hots
    have a1 : (⟨L.val / 1024, Nat.div_lt_of_lt_mul L.isLt⟩ : Fin 24) = p := Fin.ext (by show L.val / 1024 = _; omega)
    have a2 : (⟨L.val % 1024, Nat.mod_lt _ (by decide)⟩ : Fin 1024) = w := Fin.ext (by show L.val % 1024 = _; omega)
    rw [← a1, ← a2]
    rfl
  have e2 : ∀ k : Fin 128, hots v2 (ix2 k ⟨(L.val + 1024) % 24576, Nat.mod_lt _ (by decide)⟩)
      = if BitVec.ofNat 32 k.val = v2 (ix2 p' w) then 1 else 0 := by
    intro k
    unfold hots
    have a1 : (⟨(L.val + 1024) % 24576 / 1024, Nat.div_lt_of_lt_mul (Nat.mod_lt _ (by decide))⟩ : Fin 24) = p' :=
      Fin.ext (by show (L.val + 1024) % 24576 / 1024 = _; omega)
    have a2 : (⟨(L.val + 1024) % 24576 % 1024, Nat.mod_lt _ (by decide)⟩ : Fin 1024) = w :=
      Fin.ext (by show (L.val + 1024) % 24576 % 1024 = _; omega)
    rw [← a1, ← a2]
    rfl
  unfold stackDot
  rw [halvesDot_apply]
  simp only [rotate_lanes (R := 128) (hots v2) 23552#32 1024 (by decide), e1, e2]
  rw [sum_oneHot_word _ (hv p w) fun k => T (ix2 ⟨k.val, by omega⟩ c),
    sum_oneHot_word _ (hv p' w) fun k => T (ix2 ⟨128 + k.val, by omega⟩ c)]

/-- The 24 chunks as the body writes them, side by side, are `hots`. -/
theorem chunks_eq (v2 : IVec S24x1024 32) :
    concatenate S128x24576 1 [⟨S128x1024, sel v2 0 slices_S24x1024_o0_0_S1x1024⟩, ⟨S128x1024, sel v2 1 slices_S24x1024_o1_0_S1x1024⟩, ⟨S128x1024, sel v2 2 slices_S24x1024_o2_0_S1x1024⟩, ⟨S128x1024, sel v2 3 slices_S24x1024_o3_0_S1x1024⟩, ⟨S128x1024, sel v2 4 slices_S24x1024_o4_0_S1x1024⟩, ⟨S128x1024, sel v2 5 slices_S24x1024_o5_0_S1x1024⟩, ⟨S128x1024, sel v2 6 slices_S24x1024_o6_0_S1x1024⟩, ⟨S128x1024, sel v2 7 slices_S24x1024_o7_0_S1x1024⟩, ⟨S128x1024, sel v2 8 slices_S24x1024_o8_0_S1x1024⟩, ⟨S128x1024, sel v2 9 slices_S24x1024_o9_0_S1x1024⟩, ⟨S128x1024, sel v2 10 slices_S24x1024_o10_0_S1x1024⟩, ⟨S128x1024, sel v2 11 slices_S24x1024_o11_0_S1x1024⟩, ⟨S128x1024, sel v2 12 slices_S24x1024_o12_0_S1x1024⟩, ⟨S128x1024, sel v2 13 slices_S24x1024_o13_0_S1x1024⟩, ⟨S128x1024, sel v2 14 slices_S24x1024_o14_0_S1x1024⟩, ⟨S128x1024, sel v2 15 slices_S24x1024_o15_0_S1x1024⟩, ⟨S128x1024, sel v2 16 slices_S24x1024_o16_0_S1x1024⟩, ⟨S128x1024, sel v2 17 slices_S24x1024_o17_0_S1x1024⟩, ⟨S128x1024, sel v2 18 slices_S24x1024_o18_0_S1x1024⟩, ⟨S128x1024, sel v2 19 slices_S24x1024_o19_0_S1x1024⟩, ⟨S128x1024, sel v2 20 slices_S24x1024_o20_0_S1x1024⟩, ⟨S128x1024, sel v2 21 slices_S24x1024_o21_0_S1x1024⟩, ⟨S128x1024, sel v2 22 slices_S24x1024_o22_0_S1x1024⟩, ⟨S128x1024, sel v2 23 slices_S24x1024_o23_0_S1x1024⟩]
      concatenates_S128x1024_S128x1024_S128x1024_S128x1024_S128x1024_S128x1024_S128x1024_S128x1024_S128x1024_S128x1024_S128x1024_S128x1024_S128x1024_S128x1024_S128x1024_S128x1024_S128x1024_S128x1024_S128x1024_S128x1024_S128x1024_S128x1024_S128x1024_S128x1024_S128x24576_d1 = hots v2 := by
  have e : ([⟨S128x1024, sel v2 0 slices_S24x1024_o0_0_S1x1024⟩, ⟨S128x1024, sel v2 1 slices_S24x1024_o1_0_S1x1024⟩, ⟨S128x1024, sel v2 2 slices_S24x1024_o2_0_S1x1024⟩, ⟨S128x1024, sel v2 3 slices_S24x1024_o3_0_S1x1024⟩, ⟨S128x1024, sel v2 4 slices_S24x1024_o4_0_S1x1024⟩, ⟨S128x1024, sel v2 5 slices_S24x1024_o5_0_S1x1024⟩, ⟨S128x1024, sel v2 6 slices_S24x1024_o6_0_S1x1024⟩, ⟨S128x1024, sel v2 7 slices_S24x1024_o7_0_S1x1024⟩, ⟨S128x1024, sel v2 8 slices_S24x1024_o8_0_S1x1024⟩, ⟨S128x1024, sel v2 9 slices_S24x1024_o9_0_S1x1024⟩, ⟨S128x1024, sel v2 10 slices_S24x1024_o10_0_S1x1024⟩, ⟨S128x1024, sel v2 11 slices_S24x1024_o11_0_S1x1024⟩, ⟨S128x1024, sel v2 12 slices_S24x1024_o12_0_S1x1024⟩, ⟨S128x1024, sel v2 13 slices_S24x1024_o13_0_S1x1024⟩, ⟨S128x1024, sel v2 14 slices_S24x1024_o14_0_S1x1024⟩, ⟨S128x1024, sel v2 15 slices_S24x1024_o15_0_S1x1024⟩, ⟨S128x1024, sel v2 16 slices_S24x1024_o16_0_S1x1024⟩, ⟨S128x1024, sel v2 17 slices_S24x1024_o17_0_S1x1024⟩, ⟨S128x1024, sel v2 18 slices_S24x1024_o18_0_S1x1024⟩, ⟨S128x1024, sel v2 19 slices_S24x1024_o19_0_S1x1024⟩, ⟨S128x1024, sel v2 20 slices_S24x1024_o20_0_S1x1024⟩, ⟨S128x1024, sel v2 21 slices_S24x1024_o21_0_S1x1024⟩, ⟨S128x1024, sel v2 22 slices_S24x1024_o22_0_S1x1024⟩, ⟨S128x1024, sel v2 23 slices_S24x1024_o23_0_S1x1024⟩] : List ((s : Shape) × (s.Idx → Ideal .f32)))
      = List.ofFn fun n : Fin 24 => (⟨S128x1024, hot v2 n⟩ : (s : Shape) × (s.Idx → Ideal .f32)) := by
    rw [sel_eq v2 0 (by decide), sel_eq v2 1 (by decide), sel_eq v2 2 (by decide), sel_eq v2 3 (by decide), sel_eq v2 4 (by decide), sel_eq v2 5 (by decide), sel_eq v2 6 (by decide), sel_eq v2 7 (by decide), sel_eq v2 8 (by decide), sel_eq v2 9 (by decide), sel_eq v2 10 (by decide), sel_eq v2 11 (by decide), sel_eq v2 12 (by decide), sel_eq v2 13 (by decide), sel_eq v2 14 (by decide), sel_eq v2 15 (by decide), sel_eq v2 16 (by decide), sel_eq v2 17 (by decide), sel_eq v2 18 (by decide), sel_eq v2 19 (by decide), sel_eq v2 20 (by decide), sel_eq v2 21 (by decide), sel_eq v2 22 (by decide), sel_eq v2 23 (by decide)]
    rfl
  refine (StableHlo.concatenate_congr _ _ e _ (e ▸ concatenates_S128x1024_S128x1024_S128x1024_S128x1024_S128x1024_S128x1024_S128x1024_S128x1024_S128x1024_S128x1024_S128x1024_S128x1024_S128x1024_S128x1024_S128x1024_S128x1024_S128x1024_S128x1024_S128x1024_S128x1024_S128x1024_S128x1024_S128x1024_S128x1024_S128x24576_d1)).trans (hots_eq v2 _)

/-- The body's product is that of the 24 chunks side by side. -/
theorem pay26_eq (v2 : IVec S24x1024 32) (T : FVec Ideal S256x256 .f32) :
    k1_pay26 (F := Ideal) v2 (iota .tc S128x1024 32 [0] iota_S128x1024_d0_w32) (sel v2 0 slices_S24x1024_o0_0_S1x1024) (sel v2 1 slices_S24x1024_o1_0_S1x1024) (sel v2 2 slices_S24x1024_o2_0_S1x1024) (sel v2 3 slices_S24x1024_o3_0_S1x1024) (sel v2 4 slices_S24x1024_o4_0_S1x1024) (sel v2 5 slices_S24x1024_o5_0_S1x1024) (sel v2 6 slices_S24x1024_o6_0_S1x1024) (sel v2 7 slices_S24x1024_o7_0_S1x1024) (sel v2 8 slices_S24x1024_o8_0_S1x1024) (sel v2 9 slices_S24x1024_o9_0_S1x1024) (sel v2 10 slices_S24x1024_o10_0_S1x1024) (sel v2 11 slices_S24x1024_o11_0_S1x1024) (sel v2 12 slices_S24x1024_o12_0_S1x1024) (sel v2 13 slices_S24x1024_o13_0_S1x1024) (sel v2 14 slices_S24x1024_o14_0_S1x1024) (sel v2 15 slices_S24x1024_o15_0_S1x1024) (sel v2 16 slices_S24x1024_o16_0_S1x1024) (sel v2 17 slices_S24x1024_o17_0_S1x1024) (sel v2 18 slices_S24x1024_o18_0_S1x1024) (k1_pay25 v2) T = stackDot T (hots v2) :=
  congrArg (stackDot T) (chunks_eq v2)

/-- The sum the body takes its maxima of, rows 0 to 103: the product's row plus its row 104 further at the lane two
    positions further (wrapping at the end). -/
def pairSum (Y : FVec Ideal S256x24576 .f32) : FVec Ideal S104x24576 .f32 :=
  addf (extractStridedSlice S104x24576 ![0, 0] Y slices_S256x24576_o0_0_S104x24576)
    (extractStridedSlice S104x24576 ![104, 0] (dynamicRotate 1 22528#32 none Y rotates_S256x24576_d1) slices_S256x24576_o104_0_S104x24576)

/-- That sum at an index. -/
theorem pairSum_apply (Y : FVec Ideal S256x24576 .f32) (c : Fin 104) (L : Fin 24576) :
    pairSum Y (ix2 c L) = Y (ix2 ⟨c.val, by omega⟩ L)
      + Y (ix2 ⟨104 + c.val, by omega⟩ ⟨(L.val + 2048) % 24576, Nat.mod_lt _ (by decide)⟩) := by
  unfold pairSum
  rw [← rotate_lanes (R := 256) Y 22528#32 2048 (by decide) rotates_S256x24576_d1]
  generalize dynamicRotate 1 22528#32 none Y rotates_S256x24576_d1 = B
  pointwise

/-- The body's result for the width-2 filter `f` and word `w`: `max · 0` of the maximum over positions 0 to 22 of row 206 + f. -/
theorem out_width2 (Y : FVec Ideal S256x24576 .f32) (a b : FVec Ideal S104x1024 .f32) (w : Fin 1024) (f : Fin 50) :
    k1_pay1 (F := Ideal) a b (k1_pay31 Y) (k1_pay32 Y) (ix2 w ⟨f.val, by omega⟩)
      = max (chainMax 22 fun p => Y (ix2 ⟨206 + f.val, by omega⟩ ⟨p.val * 1024 + w.val, by omega⟩)) 0 := by
  pointwise [k1_pay1, k1_pay31, k1_pay32]
  simp only [chainMax, Fin.val_castSucc, Fin.val_last, Fin.val_zero, Nat.reduceAdd, Nat.reduceMul, Nat.zero_mul, Nat.zero_add]
  have e : 200 + (6 + f.val) = 206 + f.val := by omega
  simp only [e]

/-- The first chunk of the sum, which the maxima start from. -/
def firstChunk (z : FVec Ideal S104x24576 .f32) : FVec Ideal S104x1024 .f32 :=
  extractStridedSlice S104x1024 ![0, 0] z slices_S104x24576_o0_0_S104x1024

/-- The body's result for the width-3 filter `f` and word `w`: `max · 0` of the maximum over positions 0 to 21 of row f. -/
theorem out_width3 (z : FVec Ideal S104x24576 .f32) (q : FVec Ideal S56x24576 .f32) (r : FVec Ideal S56x1024 .f32)
    (w : Fin 1024) (f : Fin 50) :
    k1_pay1 (F := Ideal) (k1_pay29 z (firstChunk z)) (k1_pay30 z (firstChunk z)) q r (ix2 w ⟨50 + f.val, by omega⟩)
      = max (chainMax 21 fun p => z (ix2 ⟨f.val, by omega⟩ ⟨p.val * 1024 + w.val, by omega⟩)) 0 := by
  pointwise [k1_pay1, k1_pay29, k1_pay30, firstChunk]
  have h1 : ¬ 50 + f.val < 50 := by omega
  have h2 : 50 + f.val - 50 = f.val := by omega
  have h3 : f.val < 50 := f.isLt
  simp only [chainMax, Fin.val_castSucc, Fin.val_last, Fin.val_zero, Nat.reduceAdd, Nat.reduceMul, Nat.zero_mul, Nat.zero_add,
    h1, h2, h3, dite_true, dite_false]

/-- The body's result for the width-4 filter `f` and word `w`: `max · 0` of the maximum over positions 0 to 20 of row 50 + f. -/
theorem out_width4 (z : FVec Ideal S104x24576 .f32) (b : FVec Ideal S104x1024 .f32) (q : FVec Ideal S56x24576 .f32)
    (r : FVec Ideal S56x1024 .f32) (w : Fin 1024) (f : Fin 50) :
    k1_pay1 (F := Ideal) (k1_pay29 z (firstChunk z)) b q r (ix2 w ⟨100 + f.val, by omega⟩)
      = max (chainMax 20 fun p => z (ix2 ⟨50 + f.val, by omega⟩ ⟨p.val * 1024 + w.val, by omega⟩)) 0 := by
  pointwise [k1_pay1, k1_pay29, firstChunk]
  have h1 : ¬ 100 + f.val < 50 := by omega
  have h2 : ¬ 100 + f.val - 50 < 50 := by omega
  have h3 : 100 + f.val - 50 - 50 = f.val := by omega
  simp only [chainMax, Fin.val_castSucc, Fin.val_last, Fin.val_zero, Nat.reduceAdd, Nat.reduceMul, Nat.zero_mul, Nat.zero_add,
    h1, h2, h3, dite_true, dite_false]

/-- The ids as the body uses them: position by word. -/
theorem pay2_apply (x0 : Vec Ideal S1x1024x24 .i32) (p : Fin 24) (w : Fin 1024) :
    k1_pay2 (F := Ideal) x0 (ix2 p w) = x0 (ix3 0 w p) := by
  pointwise [k1_pay2]

end Cert.CharConv
end
-- ==== Proof.Block.lean ====
module

public import proofs.«01_k».proof.Proof.Gen.KernelIdeal.Frame
public import proofs.«01_k».proof.Proof.Body
public import Idealize.ShloMosaic.Lib.Pipeline.ValueKit

/-! What the main region's body computes for one word of its block, as a function of the word's
twenty-four characters and of the table. -/

@[expose] public section

set_option maxRecDepth 16384

noncomputable section

namespace Cert.CharConv

open Idealize.ShloMosaic Cert.KernelIdeal Cert.KernelIdeal.Gen

/-- The start of a whole two-dimensional block. -/
theorem hz2 : (![0, 0] : Fin 2 → ℕ) = fun _ => 0 := funext fun a => by fin_cases a <;> rfl

/-- The start of a whole three-dimensional block. -/
theorem hz3 : (![0, 0, 0] : Fin 3 → ℕ) = fun _ => 0 := funext fun a => by fin_cases a <;> rfl

/-- Two neighbouring taps: column `c` of the table at one character in the first half and at another in
the second half. -/
def twoTaps (T : FVec Ideal S256x256 .f32) (g : Fin 24 → Fin 128) (c : Fin 256) (p p' : Fin 24) : EReal :=
  T (ix2 ⟨(g p).val, by omega⟩ c) + T (ix2 ⟨128 + (g p').val, by omega⟩ c)

/-- The characters of word `w` of a block. -/
def chars (x0 : IVec S1x1024x24 32) (hx : ∀ w p, (x0 (ix3 0 w p)).toNat < 128) (w : Fin 1024) : Fin 24 → Fin 128 :=
  fun p => ⟨(x0 (ix3 0 w p)).toNat, hx w p⟩

/-- The matrix product the body takes: the table's two halves at the one-hot columns of every word and position. -/
def product (x0 : IVec S1x1024x24 32) (T : FVec Ideal S256x256 .f32) : FVec Ideal S256x24576 .f32 :=
  stackDot T (hots (k1_pay2 (F := Ideal) x0))

/-- That product at a column of the table and a word and position. -/
theorem product_apply (x0 : IVec S1x1024x24 32) (hx : ∀ w p, (x0 (ix3 0 w p)).toNat < 128)
    (T : FVec Ideal S256x256 .f32) (c : Fin 256) (p p' : Fin 24) (hp : p'.val = (p.val + 1) % 24)
    (w : Fin 1024) (L : Fin 24576) (hL : L.val = p.val * 1024 + w.val) :
    product x0 T (ix2 c L) = twoTaps T (chars x0 hx w) c p p' := by
  have hv : ∀ p w, ((k1_pay2 (F := Ideal) x0) (ix2 p w)).toNat < 128 := fun p w => by
    rw [pay2_apply]; exact hx w p
  rw [product, stackDot_hots (k1_pay2 x0) hv T c p p' hp w L hL]
  simp only [pay2_apply, twoTaps, chars]

/-- What the body leaves in its output block, with the matrix product named. -/
theorem out_eq (x0 : IVec S1x1024x24 32) (T : FVec Ideal S256x256 .f32) :
    out1_2 (F := Ideal) x0 T
      = k1_pay1 (k1_pay29 (pairSum (product x0 T)) (firstChunk (pairSum (product x0 T))))
          (k1_pay30 (pairSum (product x0 T)) (firstChunk (pairSum (product x0 T))))
          (k1_pay31 (product x0 T)) (k1_pay32 (product x0 T)) := by
  have e0 : View.ld (Val := Elt Ideal) (e' := .i32) x0 r1_0 = x0 := View.ld_unit_zero hz3 _ _
  have e1 : View.ld (Val := Elt Ideal) (e' := .f32) T r1_1 = T := View.ld_unit_zero hz2 _ _
  have h : k1_pay55 (F := Ideal) x0 T = product (View.ld (Val := Elt Ideal) (e' := .i32) x0 r1_0) (View.ld (Val := Elt Ideal) (e' := .f32) T r1_1) :=
    pay26_eq _ _
  have h56 : k1_pay56 (F := Ideal) x0 T = pairSum (k1_pay55 (F := Ideal) x0 T) := rfl
  have h57 : k1_pay57 (F := Ideal) x0 T = firstChunk (pairSum (k1_pay55 (F := Ideal) x0 T)) := rfl
  rw [e0, e1] at h
  rw [h] at h56 h57
  unfold out1_2
  rw [View.canon_unit_zero hz2, h56, h57, h]

/-- The width-two features of word `w`: the largest, over the positions, of two taps, cut off at zero. -/
theorem block_width2 (x0 : IVec S1x1024x24 32) (hx : ∀ w p, (x0 (ix3 0 w p)).toNat < 128)
    (T : FVec Ideal S256x256 .f32) (w : Fin 1024) (f : Fin 50) :
    out1_2 (F := Ideal) x0 T (ix2 w ⟨f.val, by omega⟩)
      = max (chainMax 22 fun p => twoTaps T (chars x0 hx w) ⟨206 + f.val, by omega⟩ ⟨p.val, by omega⟩ ⟨p.val + 1, by omega⟩) 0 := by
  rw [out_eq, out_width2]
  refine congrArg (fun g => max (chainMax 22 g) 0) (funext fun p => ?_)
  exact product_apply x0 hx T _ _ _ (by show p.val + 1 = (p.val + 1) % 24; omega) w _ rfl

/-- The width-three features of word `w`: two taps and, two positions further, two more. -/
theorem block_width3 (x0 : IVec S1x1024x24 32) (hx : ∀ w p, (x0 (ix3 0 w p)).toNat < 128)
    (T : FVec Ideal S256x256 .f32) (w : Fin 1024) (f : Fin 50) :
    out1_2 (F := Ideal) x0 T (ix2 w ⟨50 + f.val, by omega⟩)
      = max (chainMax 21 fun p =>
          twoTaps T (chars x0 hx w) ⟨f.val, by omega⟩ ⟨p.val, by omega⟩ ⟨p.val + 1, by omega⟩
          + twoTaps T (chars x0 hx w) ⟨104 + f.val, by omega⟩ ⟨p.val + 2, by omega⟩
              ⟨(p.val + 3) % 24, Nat.mod_lt _ (by decide)⟩) 0 := by
  rw [out_eq, out_width3]
  refine congrArg (fun g => max (chainMax 21 g) 0) (funext fun p => ?_)
  rw [pairSum_apply]
  refine congrArg₂ (· + ·)
    (product_apply x0 hx T _ _ _ (by show p.val + 1 = (p.val + 1) % 24; omega) w _ rfl)
    (product_apply x0 hx T _ ⟨p.val + 2, by omega⟩ _ (by show (p.val + 3) % 24 = (p.val + 2 + 1) % 24; omega) w _
      (by show (p.val * 1024 + w.val + 2048) % 24576 = (p.val + 2) * 1024 + w.val; omega))

/-- The width-four features of word `w`. -/
theorem block_width4 (x0 : IVec S1x1024x24 32) (hx : ∀ w p, (x0 (ix3 0 w p)).toNat < 128)
    (T : FVec Ideal S256x256 .f32) (w : Fin 1024) (f : Fin 50) :
    out1_2 (F := Ideal) x0 T (ix2 w ⟨100 + f.val, by omega⟩)
      = max (chainMax 20 fun p =>
          twoTaps T (chars x0 hx w) ⟨50 + f.val, by omega⟩ ⟨p.val, by omega⟩ ⟨p.val + 1, by omega⟩
          + twoTaps T (chars x0 hx w) ⟨104 + (50 + f.val), by omega⟩ ⟨p.val + 2, by omega⟩ ⟨p.val + 3, by omega⟩) 0 := by
  rw [out_eq, out_width4]
  refine congrArg (fun g => max (chainMax 20 g) 0) (funext fun p => ?_)
  rw [pairSum_apply]
  refine congrArg₂ (· + ·)
    (product_apply x0 hx T _ _ _ (by show p.val + 1 = (p.val + 1) % 24; omega) w _ rfl)
    (product_apply x0 hx T _ ⟨p.val + 2, by omega⟩ _ (by show p.val + 3 = (p.val + 2 + 1) % 24; omega) w _
      (by show (p.val * 1024 + w.val + 2048) % 24576 = (p.val + 2) * 1024 + w.val; omega))

end Cert.CharConv
end
-- ==== Proof.Arrays.lean ====
module

public import proofs.«01_k».proof.Proof.Gen.KernelIdeal.Frame
public import proofs.«01_k».proof.Proof.Block
public import Idealize.ShloMosaic.Lib.Pipeline.ValueKit
public import Idealize.ShloMosaic.Lib.Claim

/-! What the arrays that the two regions write hold, from the arrays they read: the first region's table, and the main
region's result, block by block. -/

@[expose] public section

set_option maxRecDepth 16384

noncomputable section

namespace Cert.CharConv

open Idealize.ShloMosaic Idealize.ShloMosaic.TcCoe Idealize.SL.Sem Cert.KernelIdeal Cert.KernelIdeal.Gen
open Idealize.ShloMosaic.Pipeline (Dat)

section Regions
variable (V : (c : Dev nD) → (b : Ref sig .tc) → Buf (Elt Ideal) ((c : Thread nD τ).loc b))

/-- The two halves of the table: the extended embedding times each of the two blocks of weights. -/
def tableOf (E : FVec Ideal S128x31 .f32) (W : FVec Ideal S2x31x256 .f32) : FVec Ideal S256x256 .f32 :=
  k0_pay1 (F := Ideal) E (View.ld W r0_1) E (View.ld W r0_2)

/-- A row of the table's first half. -/
theorem tableOf_first (E : FVec Ideal S128x31 .f32) (W : FVec Ideal S2x31x256 .f32) (v : Fin 128) (c : Fin 256) :
    tableOf E W (ix2 ⟨v.val, by omega⟩ c) = ∑ d : Fin 31, E (ix2 v d) * W (ix3 0 d c) := by
  have h : v.val < 128 := v.isLt
  pointwise [tableOf, k0_pay1]

/-- A row of its second half. -/
theorem tableOf_second (E : FVec Ideal S128x31 .f32) (W : FVec Ideal S2x31x256 .f32) (v : Fin 128) (c : Fin 256) :
    tableOf E W (ix2 ⟨128 + v.val, by omega⟩ c) = ∑ d : Fin 31, E (ix2 v d) * W (ix3 1 d c) := by
  have h : ¬ 128 + v.val < 128 := by omega
  have h2 : 128 + v.val - 128 = v.val := by omega
  pointwise [tableOf, k0_pay1]

/-- A place of the table's one block is the same place of the table. -/
theorem table_emb (t : Fin cfg0.grid.N) (y : ((cfg0.win 2).xblock (cfg0.grid.coords t)).Idx) :
    ((win0_2.blk t).view.emb y : S256x256.Idx) = y := by
  have hi := (by decide +kernel : ∀ t, win0_2.index t = ![0, 0]) t
  blk_ext [hi]

/-- The first region's blocks of its inputs are its whole inputs. -/
theorem iblk0_emb (c : Dev nD) (t : Fin cfg0.grid.N) : iblk0 V c 0 t = V c main_v71 := by
  funext z
  have hi := (by decide +kernel : ∀ t, win0_0.index t = ![0, 0]) t
  blk_ext [iblk0, hi]

/-- The same of its second input, the two blocks of weights. -/
theorem iblk0_weights (c : Dev nD) (t : Fin cfg0.grid.N) : iblk0 V c 1 t = V c main_v70 := by
  funext z
  have hi := (by decide +kernel : ∀ t, win0_1.index t = ![0, 0, 0]) t
  blk_ext [iblk0, hi]

/-- The array the first region leaves is the table of its two input arrays. -/
theorem table_arr (c : Dev nD) :
    (dat0 V c).arrAt 2 cfg0.N = tableOf (V c main_v71) (V c main_v70) := by
  refine (dat0 V c).arrAt_eq_of_covers 2 _ (by decide +kernel) fun t hf y => ?_
  blk_simp
  rw [after0_2]
  frame_out
  rw [iblk0_emb, iblk0_weights]
  exact congrArg (tableOf (V c main_v71) (V c main_v70)) (table_emb t y).symm

/-- Block `i` of the array of identifiers. -/
def idBlock (X : IVec S32x1024x24 32) (i : Fin 32) : IVec S1x1024x24 32 := fun y => X (ix3 i (y 1) (y 2))

/-- The array the main region leaves: row `r` is what the body computes for word `r % 1024` of block `r / 1024`. -/
def mainOf (X : IVec S32x1024x24 32) (T : FVec Ideal S256x256 .f32) : FVec Ideal S32768x150 .f32 := fun y =>
  out1_2 (F := Ideal) (idBlock X ⟨(y 0).val / 1024, Nat.div_lt_of_lt_mul (y 0).isLt⟩) T
    (ix2 ⟨(y 0).val % 1024, Nat.mod_lt _ (by decide)⟩ (y 1))

/-- A row of that array, found from its block and its place in the block. -/
theorem mainOf_at (X : IVec S32x1024x24 32) (T : FVec Ideal S256x256 .f32) (i : Fin 32)
    (j : S32768x150.Idx) (y : S1024x150.Idx)
    (h0 : (j 0).val = i.val * 1024 + (y 0).val) (h1 : (j 1).val = (y 1).val) :
    mainOf X T j = out1_2 (F := Ideal) (idBlock X i) T y := by
  have hy : (y 0).val < 1024 := (y 0).isLt
  have a : (⟨(j 0).val / 1024, Nat.div_lt_of_lt_mul (j 0).isLt⟩ : Fin 32) = i := Fin.ext (by show (j 0).val / 1024 = i.val; omega)
  have b : (ix2 ⟨(j 0).val % 1024, Nat.mod_lt _ (by decide)⟩ (j 1) : S1024x150.Idx) = y := by
    funext d
    match d with
    | ⟨0, _⟩ => exact Fin.ext (by show (j 0).val % 1024 = (y 0).val; omega)
    | ⟨1, _⟩ => exact Fin.ext h1
  unfold mainOf
  rw [a, b]

/-- The array the main region leaves, from its two input arrays. -/
theorem main_arr (c : Dev nD) :
    (dat1 V c).arrAt 2 cfg1.N = mainOf (V c main_v73) (V c main_v72) := by
  refine (dat1 V c).arrAt_eq_of_covers 2 _ (by decide +kernel) fun t hf y => ?_
  have hi := (by decide +kernel : ∀ t, win1_2.index t = ![t.val, 0]) t
  blk_simp [hi]
  rw [after1_2]
  have i1 : iblk1 V c 1 t = V c main_v72 := by
    funext z
    have hi := (by decide +kernel : ∀ t, win1_1.index t = ![0, 0]) t
    blk_ext [iblk1, hi]
  have i0 : iblk1 V c 0 t = idBlock (V c main_v73) ⟨t.val, t.isLt⟩ := by
    funext z
    have hi := (by decide +kernel : ∀ t, win1_0.index t = ![t.val, 0, 0]) t
    unfold idBlock
    blk_ext [iblk1, hi]
  rw [i0, i1]
  refine (mainOf_at _ _ ⟨t.val, t.isLt⟩ _ y ?_ ?_).symm
  · blk_simp [hi]
  · blk_simp [hi]
end Regions

end Cert.CharConv
end
-- ==== Proof.Features.lean ====
module

public import Idealize.ShloMosaic.Lib.Pointwise
public import proofs.«01_k».proof.Proof.MaxSum

/-! The word features the kernel and the reference both compute. -/

@[expose] public section

noncomputable section

namespace Cert.CharConv

open Idealize.ShloMosaic

/-- A character's embedding against tap `t` of filter `f`. -/
def tapDot {k : ℕ} (e : FVec Ideal ⟨2, ![128, 30]⟩ .f32) (W : FVec Ideal ⟨3, ![50, 30, k]⟩ .f32) (v : Fin 128) (t : Fin k)
    (f : Fin 50) : EReal :=
  ∑ d : Fin 30, e (ix2 v d) * W (ix3 f d t)

/-- The characters of word `(B, S)` of an array of identifiers that all name rows of the embedding. -/
def wordChars (X : IVec ⟨3, ![64, 512, 24]⟩ 32) (hX : ∀ B S p, (X (ix3 B S p)).toNat < 128) (B : Fin 64) (S : Fin 512) :
    Fin 24 → Fin 128 :=
  fun p => ⟨(X (ix3 B S p)).toNat, hX B S p⟩

/-- Feature `f` of the filters of width two of a word whose characters are `g`. -/
def width2 (e : FVec Ideal ⟨2, ![128, 30]⟩ .f32) (W : FVec Ideal ⟨3, ![50, 30, 2]⟩ .f32) (b : FVec Ideal ⟨1, ![50]⟩ .f32)
    (g : Fin 24 → Fin 128) (f : Fin 50) : EReal :=
  Finset.univ.fold max ⊥ fun p : Fin 23 =>
    max (tapDot e W (g ⟨p.val, by omega⟩) 0 f + tapDot e W (g ⟨p.val + 1, by omega⟩) 1 f + b (ix1 f)) 0

/-- Feature `f` of the filters of width three. -/
def width3 (e : FVec Ideal ⟨2, ![128, 30]⟩ .f32) (W : FVec Ideal ⟨3, ![50, 30, 3]⟩ .f32) (b : FVec Ideal ⟨1, ![50]⟩ .f32)
    (g : Fin 24 → Fin 128) (f : Fin 50) : EReal :=
  Finset.univ.fold max ⊥ fun p : Fin 22 =>
    max (tapDot e W (g ⟨p.val, by omega⟩) 0 f + tapDot e W (g ⟨p.val + 1, by omega⟩) 1 f
      + tapDot e W (g ⟨p.val + 2, by omega⟩) 2 f + b (ix1 f)) 0

/-- Feature `f` of the filters of width four. -/
def width4 (e : FVec Ideal ⟨2, ![128, 30]⟩ .f32) (W : FVec Ideal ⟨3, ![50, 30, 4]⟩ .f32) (b : FVec Ideal ⟨1, ![50]⟩ .f32)
    (g : Fin 24 → Fin 128) (f : Fin 50) : EReal :=
  Finset.univ.fold max ⊥ fun p : Fin 21 =>
    max (tapDot e W (g ⟨p.val, by omega⟩) 0 f + tapDot e W (g ⟨p.val + 1, by omega⟩) 1 f
      + tapDot e W (g ⟨p.val + 2, by omega⟩) 2 f + tapDot e W (g ⟨p.val + 3, by omega⟩) 3 f + b (ix1 f)) 0

end Cert.CharConv
end
-- ==== Proof.Table.lean ====
module

public import proofs.«01_k».proof.Proof.HostArrays
public import proofs.«01_k».proof.Proof.Arrays
public import proofs.«01_k».proof.Proof.Features

/-! The table, entry by entry: a character's embedding against one tap of one filter, and the bias's share. -/

@[expose] public section

set_option maxRecDepth 16384

noncomputable section

namespace Cert.CharConv

open Idealize.ShloMosaic Idealize.ShloMosaic.TcCoe Idealize.SL.Sem Cert.KernelIdeal Cert.KernelIdeal.Gen

/-- The extended row against a tap's column is the embedding against the tap, plus the bias's share. -/
theorem sum_tapEntry {k : ℕ} (e : FVec Ideal S128x30 .f32) (W : FVec Ideal ⟨3, ![50, 30, k]⟩ .f32)
    (b : FVec Ideal ⟨1, ![50]⟩ .f32) (n : EReal) (v : Fin 128) (t : Fin k) (f : Fin 50) :
    (∑ d : Fin 31, embEntry e v d * tapEntry W b n t f d) = tapDot e W v t f + Ideal.div (b (ix1 f)) n := by
  rw [Fin.sum_univ_castSucc]
  have hl : embEntry e v (Fin.last 30) * tapEntry W b n t f (Fin.last 30) = Ideal.div (b (ix1 f)) n := by
    have h : ¬ (Fin.last 30).val < 30 := by decide
    simp only [embEntry, tapEntry, h, dite_false, one_mul]
  rw [hl]
  refine congrArg (· + Ideal.div (b (ix1 f)) n) (Finset.sum_congr rfl fun d _ => ?_)
  have h : (Fin.castSucc d).val < 30 := d.isLt
  simp only [embEntry, tapEntry, h, dite_true]
  rfl

variable (m : (ℓ : Loc nD τ sig) → Buf (Elt Ideal) ℓ) (ρ : Dev nD → PrngReg)

/-- The table's entries in its first half, at a column that holds a tap. -/
theorem table_first {k : ℕ} (c : Dev nD) (W : FVec Ideal ⟨3, ![50, 30, k]⟩ .f32) (b : FVec Ideal ⟨1, ![50]⟩ .f32) (n : EReal)
    (t : Fin k) (f : Fin 50) (col : Fin 256)
    (h : ∀ d, W2 m ρ c (Proc.devRef .tc main_v70) (ix3 0 d col) = tapEntry W b n t f d) (v : Fin 128) :
    W4 m ρ c (Proc.devRef .tc main_v72) (ix2 ⟨v.val, by omega⟩ col)
      = tapDot (m ((c : Thread nD τ).loc main_arg1)) W v t f + Ideal.div (b (ix1 f)) n := by
  rw [W4_of m ρ c main_v72 (by decide)]
  refine (congrFun ((W3_arr m ρ c 2).trans (table_arr (V2 m ρ) c)) _).trans ?_
  refine (tableOf_first _ _ v col).trans (Eq.trans ?_ (sum_tapEntry _ W b n v t f))
  exact Finset.sum_congr rfl fun d _ => congrArg₂ (· * ·) (emb_ext m ρ c v d) (h d)

/-- The table's entries in its second half, at a column that holds a tap. -/
theorem table_second {k : ℕ} (c : Dev nD) (W : FVec Ideal ⟨3, ![50, 30, k]⟩ .f32) (b : FVec Ideal ⟨1, ![50]⟩ .f32) (n : EReal)
    (t : Fin k) (f : Fin 50) (col : Fin 256)
    (h : ∀ d, W2 m ρ c (Proc.devRef .tc main_v70) (ix3 1 d col) = tapEntry W b n t f d) (v : Fin 128) :
    W4 m ρ c (Proc.devRef .tc main_v72) (ix2 ⟨128 + v.val, by omega⟩ col)
      = tapDot (m ((c : Thread nD τ).loc main_arg1)) W v t f + Ideal.div (b (ix1 f)) n := by
  rw [W4_of m ρ c main_v72 (by decide)]
  refine (congrFun ((W3_arr m ρ c 2).trans (table_arr (V2 m ρ) c)) _).trans ?_
  refine (tableOf_second _ _ v col).trans (Eq.trans ?_ (sum_tapEntry _ W b n v t f))
  exact Finset.sum_congr rfl fun d _ => congrArg₂ (· * ·) (emb_ext m ρ c v d) (h d)

/-- The table's entries in its second half, at a column of zeros. -/
theorem table_zero (c : Dev nD) (col : Fin 256)
    (h : ∀ d, W2 m ρ c (Proc.devRef .tc main_v70) (ix3 1 d col) = (0 : EReal)) (v : Fin 128) :
    W4 m ρ c (Proc.devRef .tc main_v72) (ix2 ⟨128 + v.val, by omega⟩ col) = (0 : EReal) := by
  rw [W4_of m ρ c main_v72 (by decide)]
  refine (congrFun ((W3_arr m ρ c 2).trans (table_arr (V2 m ρ) c)) _).trans ?_
  refine (tableOf_second _ _ v col).trans (Finset.sum_eq_zero fun d _ => ?_)
  exact (congrArg (fun z : EReal => _ * z) (h d)).trans (mul_zero _)

end Cert.CharConv
end
-- ==== Proof.Bias.lean ====
module

public import proofs.«01_k».proof.Proof.MaxSum
public import Idealize.ShloMosaic.Lib.IdealHost

/-! The bias taken in equal shares: a half twice, a third three times or a quarter four times is the whole, for every
extended real; and the constants involved. -/

@[expose] public section

noncomputable section

namespace Cert.CharConv

open Idealize.ShloMosaic

/-- The pattern of the number two. -/
theorem two_f32 : Ideal.ofBits .f32 1073741824#32 = ((2 : ℝ) : EReal) := by
  simp [Ideal.ofBits, Ideal.ieee, -EReal.coe_mul]; norm_num

/-- The pattern of the number three. -/
theorem three_f32 : Ideal.ofBits .f32 1077936128#32 = ((3 : ℝ) : EReal) := by
  simp [Ideal.ofBits, Ideal.ieee, -EReal.coe_mul]; norm_num

/-- The pattern of the number four. -/
theorem four_f32 : Ideal.ofBits .f32 1082130432#32 = ((4 : ℝ) : EReal) := by
  simp [Ideal.ofBits, Ideal.ieee, -EReal.coe_mul]; norm_num

/-- The pattern of minus infinity is the least extended real. -/
theorem bot_f32 : Ideal.ofBits .f32 4286578688#32 = (⊥ : EReal) := by
  simp [Ideal.ofBits, Ideal.ieee]

/-- A quotient by a real other than zero, at a real. -/
theorem div_real (x n : ℝ) (hn : n ≠ 0) : Ideal.div (x : EReal) (n : EReal) = ((x / n : ℝ) : EReal) := by
  unfold Ideal.div
  rw [if_neg (by exact_mod_cast hn), ← EReal.coe_inv, ← EReal.coe_mul, div_eq_mul_inv]

/-- The largest extended real over a positive real is itself. -/
theorem div_top (n : ℝ) (hn : 0 < n) : Ideal.div (⊤ : EReal) (n : EReal) = ⊤ := by
  unfold Ideal.div
  rw [if_neg (by exact_mod_cast hn.ne'), ← EReal.coe_inv]
  exact EReal.top_mul_coe_of_pos (inv_pos.mpr hn)

/-- So is the least. -/
theorem div_bot (n : ℝ) (hn : 0 < n) : Ideal.div (⊥ : EReal) (n : EReal) = ⊥ := by
  unfold Ideal.div
  rw [if_neg (by exact_mod_cast hn.ne'), ← EReal.coe_inv]
  exact EReal.bot_mul_coe_of_pos (inv_pos.mpr hn)

/-- Half of a bias, taken twice, is the bias. -/
theorem two_halves (b : EReal) : Ideal.div b ((2 : ℝ) : EReal) + Ideal.div b ((2 : ℝ) : EReal) = b := by
  induction b with
  | bot => rw [div_bot _ (by norm_num)]; rfl
  | top => rw [div_top _ (by norm_num)]; rfl
  | coe x => rw [div_real _ _ (by norm_num), ← EReal.coe_add]; congr 1; ring

/-- A third of it, taken three times, is the bias. -/
theorem three_thirds (b : EReal) :
    Ideal.div b ((3 : ℝ) : EReal) + Ideal.div b ((3 : ℝ) : EReal) + Ideal.div b ((3 : ℝ) : EReal) = b := by
  induction b with
  | bot => rw [div_bot _ (by norm_num)]; rfl
  | top => rw [div_top _ (by norm_num)]; rfl
  | coe x => rw [div_real _ _ (by norm_num), ← EReal.coe_add, ← EReal.coe_add]; congr 1; ring

/-- A quarter of it, taken four times, is the bias. -/
theorem four_quarters (b : EReal) :
    Ideal.div b ((4 : ℝ) : EReal) + Ideal.div b ((4 : ℝ) : EReal) + Ideal.div b ((4 : ℝ) : EReal) + Ideal.div b ((4 : ℝ) : EReal) = b := by
  induction b with
  | bot => rw [div_bot _ (by norm_num)]; rfl
  | top => rw [div_top _ (by norm_num)]; rfl
  | coe x => rw [div_real _ _ (by norm_num), ← EReal.coe_add, ← EReal.coe_add, ← EReal.coe_add]; congr 1; ring

/-- Two taps, each with half the bias, are the two taps and the bias. -/
theorem taps_two (x y b : EReal) :
    x + Ideal.div b ((2 : ℝ) : EReal) + (y + Ideal.div b ((2 : ℝ) : EReal)) = x + y + b := by
  conv_rhs => rw [← two_halves b]
  abel

/-- Three taps, each with a third of the bias; the fourth place of the sum is zero. -/
theorem taps_three (x y z b : EReal) :
    x + Ideal.div b ((3 : ℝ) : EReal) + (y + Ideal.div b ((3 : ℝ) : EReal)) + (z + Ideal.div b ((3 : ℝ) : EReal) + 0) = x + y + z + b := by
  conv_rhs => rw [← three_thirds b]
  abel

/-- Four taps, each with a quarter of the bias. -/
theorem taps_four (x y z u b : EReal) :
    x + Ideal.div b ((4 : ℝ) : EReal) + (y + Ideal.div b ((4 : ℝ) : EReal))
      + (z + Ideal.div b ((4 : ℝ) : EReal) + (u + Ideal.div b ((4 : ℝ) : EReal))) = x + y + z + u + b := by
  conv_rhs => rw [← four_quarters b]
  abel

end Cert.CharConv
end
-- ==== Proof.KernelValue.lean ====
module

public import proofs.«01_k».proof.Proof.Table
public import proofs.«01_k».proof.Proof.Bias

/-! What the kernel's result holds, entry by entry: the word features. -/

@[expose] public section

set_option maxRecDepth 16384

noncomputable section

namespace Cert.CharConv

open Idealize.ShloMosaic Idealize.ShloMosaic.TcCoe Idealize.SL.Sem Cert.KernelIdeal Cert.KernelIdeal.Gen

/-- The characters of a word of a block, when they are those of a word of another array. -/
theorem chars_eq_wordChars (Y : IVec S32x1024x24 32) (X : IVec ⟨3, ![64, 512, 24]⟩ 32) (i : Fin 32) (w : Fin 1024)
    (hx : ∀ w p, (idBlock Y i (ix3 0 w p)).toNat < 128) (hX : ∀ B S p, (X (ix3 B S p)).toNat < 128) (B : Fin 64) (S : Fin 512)
    (e : ∀ p, Y (ix3 i w p) = X (ix3 B S p)) : chars (idBlock Y i) hx w = wordChars X hX B S :=
  funext fun p => Fin.ext (by
    show (Y (ix3 i w p)).toNat = (X (ix3 B S p)).toNat
    rw [e p])

variable (m : (ℓ : Loc nD τ sig) → Buf (Elt Ideal) ℓ) (ρ : Dev nD → PrngReg) (c : Dev nD)

/-- The table the main region reads. -/
abbrev theTable : FVec Ideal S256x256 .f32 := W4 m ρ c (Proc.devRef .tc main_v72)

/-- The blocked identifiers it reads. -/
abbrev theIds : IVec S32x1024x24 32 := W4 m ρ c (Proc.devRef .tc main_v73)

/-- Two neighbouring taps of width two: the embeddings against both taps and the whole bias. -/
theorem taps_width2 (g : Fin 24 → Fin 128) (f : Fin 50) (p p' : Fin 24) :
    twoTaps (theTable m ρ c) g ⟨206 + f.val, by omega⟩ p p'
      = tapDot (m ((c : Thread nD τ).loc main_arg1)) (m ((c : Thread nD τ).loc main_arg2)) (g p) 0 f
        + tapDot (m ((c : Thread nD τ).loc main_arg1)) (m ((c : Thread nD τ).loc main_arg2)) (g p') 1 f
        + (m ((c : Thread nD τ).loc main_arg3) : FVec Ideal ⟨1, ![50]⟩ .f32) (ix1 f) := by
  refine Eq.trans (congrArg₂ (· + ·)
    (table_first m ρ c _ _ _ 0 f _ (fun d => col_first_width2 m ρ c d f) (g p))
    (table_second m ρ c _ _ _ 1 f _ (fun d => col_second_width2 m ρ c d f) (g p'))) ?_
  rw [two_f32]
  exact taps_two _ _ _

/-- The four taps of width three, the last of which is zero. -/
theorem taps_width3 (g : Fin 24 → Fin 128) (f : Fin 50) (p p' q q' : Fin 24) :
    twoTaps (theTable m ρ c) g ⟨f.val, by omega⟩ p p' + twoTaps (theTable m ρ c) g ⟨104 + f.val, by omega⟩ q q'
      = tapDot (m ((c : Thread nD τ).loc main_arg1)) (m ((c : Thread nD τ).loc main_arg4)) (g p) 0 f
        + tapDot (m ((c : Thread nD τ).loc main_arg1)) (m ((c : Thread nD τ).loc main_arg4)) (g p') 1 f
        + tapDot (m ((c : Thread nD τ).loc main_arg1)) (m ((c : Thread nD τ).loc main_arg4)) (g q) 2 f
        + (m ((c : Thread nD τ).loc main_arg5) : FVec Ideal ⟨1, ![50]⟩ .f32) (ix1 f) := by
  refine Eq.trans (congrArg₂ (· + ·) (congrArg₂ (· + ·)
    (table_first m ρ c _ _ _ 0 f _ (fun d => col_first_width3 m ρ c d f) (g p))
    (table_second m ρ c _ _ _ 1 f _ (fun d => col_second_width3 m ρ c d f) (g p')))
    (congrArg₂ (· + ·)
    (table_first m ρ c _ _ _ 2 f _ (fun d => col_third_width3 m ρ c d f) (g q))
    (table_zero m ρ c _ (fun d => col_zero_width3 m ρ c d f) (g q')))) ?_
  rw [three_f32]
  exact taps_three _ _ _ _

/-- The four taps of width four. -/
theorem taps_width4 (g : Fin 24 → Fin 128) (f : Fin 50) (p p' q q' : Fin 24) :
    twoTaps (theTable m ρ c) g ⟨50 + f.val, by omega⟩ p p' + twoTaps (theTable m ρ c) g ⟨104 + (50 + f.val), by omega⟩ q q'
      = tapDot (m ((c : Thread nD τ).loc main_arg1)) (m ((c : Thread nD τ).loc main_arg6)) (g p) 0 f
        + tapDot (m ((c : Thread nD τ).loc main_arg1)) (m ((c : Thread nD τ).loc main_arg6)) (g p') 1 f
        + tapDot (m ((c : Thread nD τ).loc main_arg1)) (m ((c : Thread nD τ).loc main_arg6)) (g q) 2 f
        + tapDot (m ((c : Thread nD τ).loc main_arg1)) (m ((c : Thread nD τ).loc main_arg6)) (g q') 3 f
        + (m ((c : Thread nD τ).loc main_arg7) : FVec Ideal ⟨1, ![50]⟩ .f32) (ix1 f) := by
  refine Eq.trans (congrArg₂ (· + ·) (congrArg₂ (· + ·)
    (table_first m ρ c _ _ _ 0 f _ (fun d => col_first_width4 m ρ c d f) (g p))
    (table_second m ρ c _ _ _ 1 f _ (fun d => col_second_width4 m ρ c d f) (g p')))
    (congrArg₂ (· + ·)
    (table_first m ρ c _ _ _ 2 f _ (fun d => col_third_width4 m ρ c d f) (g q))
    (table_second m ρ c _ _ _ 3 f _ (fun d => col_fourth_width4 m ρ c d f) (g q')))) ?_
  rw [four_f32]
  exact taps_four _ _ _ _ _

/-- The kernel's result at a word and a column is what the main region's body computes for that word in its block. -/
theorem result_at (B : Fin 64) (S : Fin 512) (col : Fin 150) :
    W6 m ρ c (Proc.devRef .tc main_v75) (ix3 B S col)
      = out1_2 (F := Ideal) (idBlock (theIds m ρ c) ⟨(B.val * 512 + S.val) / 1024, by omega⟩) (theTable m ρ c)
          (ix2 ⟨(B.val * 512 + S.val) % 1024, by omega⟩ col) := by
  refine (result_rows m ρ c B S col).trans ?_
  refine (congrFun ((W5_arr m ρ c 2).trans (main_arr (V4 m ρ) c)) _).trans ?_
  refine mainOf_at _ _ ⟨(B.val * 512 + S.val) / 1024, by omega⟩ _ _ ?_ rfl
  show B.val * 512 + S.val = (B.val * 512 + S.val) / 1024 * 1024 + (B.val * 512 + S.val) % 1024
  omega

section Ids
variable (hX : ∀ B S p, ((m ((c : Thread nD τ).loc main_arg0) : IVec ⟨3, ![64, 512, 24]⟩ 32) (ix3 B S p)).toNat < 128)
include hX

/-- Every identifier of every block names a row of the embedding. -/
theorem blocked_lt (i : Fin 32) (w : Fin 1024) (p : Fin 24) : ((idBlock (theIds m ρ c) i) (ix3 0 w p)).toNat < 128 := by
  show ((theIds m ρ c) (ix3 i w p)).toNat < 128
  rw [show (theIds m ρ c) (ix3 i w p) = _ from ids_blocked m ρ c i w p]
  exact hX _ _ _

/-- A word of a block is a word of the array. -/
theorem block_chars (B : Fin 64) (S : Fin 512) (i : Fin 32) (w : Fin 1024) (h : i.val * 1024 + w.val = B.val * 512 + S.val) :
    chars (idBlock (theIds m ρ c) i) (blocked_lt m ρ c hX i) w = wordChars (m ((c : Thread nD τ).loc main_arg0)) hX B S := by
  have hB : (⟨i.val * 2 + w.val / 512, by omega⟩ : Fin 64) = B := Fin.ext (by show i.val * 2 + w.val / 512 = B.val; omega)
  have hS : (⟨w.val % 512, by omega⟩ : Fin 512) = S := Fin.ext (by show w.val % 512 = S.val; omega)
  refine chars_eq_wordChars _ _ i w _ hX B S fun p => ?_
  have e := ids_blocked m ρ c i w p
  rw [hB, hS] at e
  exact e

/-- The kernel's first fifty features of a word. -/
theorem kernel_width2 (B : Fin 64) (S : Fin 512) (f : Fin 50) :
    W6 m ρ c (Proc.devRef .tc main_v75) (ix3 B S ⟨f.val, by omega⟩)
      = width2 (m ((c : Thread nD τ).loc main_arg1)) (m ((c : Thread nD τ).loc main_arg2)) (m ((c : Thread nD τ).loc main_arg3))
          (wordChars (m ((c : Thread nD τ).loc main_arg0)) hX B S) f := by
  refine (result_at m ρ c B S _).trans ((block_width2 _ (blocked_lt m ρ c hX _) _ _ f).trans ?_)
  rw [chainMax_relu, chainMax_eq_fold, block_chars m ρ c hX B S _ _ (Nat.div_add_mod' _ _)]
  exact congrArg (Finset.univ.fold max ⊥) (funext fun p => congrArg (fun z : EReal => max z 0) (taps_width2 m ρ c _ f _ _))

/-- Its next fifty. -/
theorem kernel_width3 (B : Fin 64) (S : Fin 512) (f : Fin 50) :
    W6 m ρ c (Proc.devRef .tc main_v75) (ix3 B S ⟨50 + f.val, by omega⟩)
      = width3 (m ((c : Thread nD τ).loc main_arg1)) (m ((c : Thread nD τ).loc main_arg4)) (m ((c : Thread nD τ).loc main_arg5))
          (wordChars (m ((c : Thread nD τ).loc main_arg0)) hX B S) f := by
  refine (result_at m ρ c B S _).trans ((block_width3 _ (blocked_lt m ρ c hX _) _ _ f).trans ?_)
  rw [chainMax_relu, chainMax_eq_fold, block_chars m ρ c hX B S _ _ (Nat.div_add_mod' _ _)]
  exact congrArg (Finset.univ.fold max ⊥) (funext fun p => congrArg (fun z : EReal => max z 0) (taps_width3 m ρ c _ f _ _ _ _))

/-- Its last fifty. -/
theorem kernel_width4 (B : Fin 64) (S : Fin 512) (f : Fin 50) :
    W6 m ρ c (Proc.devRef .tc main_v75) (ix3 B S ⟨100 + f.val, by omega⟩)
      = width4 (m ((c : Thread nD τ).loc main_arg1)) (m ((c : Thread nD τ).loc main_arg6)) (m ((c : Thread nD τ).loc main_arg7))
          (wordChars (m ((c : Thread nD τ).loc main_arg0)) hX B S) f := by
  refine (result_at m ρ c B S _).trans ((block_width4 _ (blocked_lt m ρ c hX _) _ _ f).trans ?_)
  rw [chainMax_relu, chainMax_eq_fold, block_chars m ρ c hX B S _ _ (Nat.div_add_mod' _ _)]
  exact congrArg (Finset.univ.fold max ⊥) (funext fun p => congrArg (fun z : EReal => max z 0) (taps_width4 m ρ c _ f _ _ _ _))

end Ids

end Cert.CharConv
end
-- ==== Proof.Reference.lean ====
module

public import proofs.«01_k».proof.Proof.Gen.ReferenceIdeal.Run
public import Idealize.ShloMosaic.Lib.Pointwise
public import Idealize.ShloMosaic.Lib.Pipeline.ValueKit
public import Idealize.ShloMosaic.Lib.Claim
public import Idealize.ShloMosaic.Lib.Routing.OpsPair
public import proofs.«01_k».proof.Proof.Features
public import proofs.«01_k».proof.Proof.Bias

/-! What the reference computes, entry by entry. -/

@[expose] public section

set_option maxRecDepth 16384

noncomputable section

namespace Cert.CharConv

open Idealize.ShloMosaic Idealize.ShloMosaic.TcCoe Idealize.SL.Sem Cert.ReferenceIdeal Cert.ReferenceIdeal.Gen

/-- The identifiers as the reference hands them to its gather. -/
def refIds (X : IVec S64x512x24 32) : IVec S32768x24x1 32 :=
  broadcastInDim S32768x24x1 ![0, 1] bcast_S32768x24_S32768x24x1_0_1
    (select
      (cmpi .slt (shapeCast S32768x24 X shapeCasts_S64x512x24_S32768x24)
        (broadcastInDim S32768x24 ![] bcast_S_S32768x24 (constantI S_ 32 0#32)))
      (addi (shapeCast S32768x24 X shapeCasts_S64x512x24_S32768x24)
        (broadcastInDim S32768x24 ![] bcast_S_S32768x24 (constantI S_ 32 128#32)))
      (shapeCast S32768x24 X shapeCasts_S64x512x24_S32768x24))

/-- The embedded words: every character's row of the embedding. -/
def embedded (e : FVec Ideal S128x30 .f32) (X : IVec S64x512x24 32) : FVec Ideal S32768x24x30 .f32 :=
  Host.gather gather_S128x30_S32768x24x1_S32768x24x30_2_0_n_n_0_2_130 e (refIds X)

/-- The reference's pooled features of width two, from the embedded words. -/
def pooled2 (A : FVec Ideal S32768x24x30 .f32) (W : FVec Ideal S50x30x2 .f32) (b : FVec Ideal S50 .f32) : FVec Ideal S32768x50 .f32 :=
  Host.reduce FloatOps.maximumf
    (maximumf (addf (addf (Host.dotGeneral dot_S32768x23x30_S50x30_S32768x23x50_2_1_01_0_n_n none
        (extractStridedSlice S32768x23x30 ![0, 0, 0] A slices_S32768x24x30_S32768x23x30_0_0_0)
        (shapeCast S50x30 (extractStridedSlice S50x30x1 ![0, 0, 0] W slices_S50x30x2_S50x30x1_0_0_0) shapeCasts_S50x30x1_S50x30))
      (Host.dotGeneral dot_S32768x23x30_S50x30_S32768x23x50_2_1_01_0_n_n none
        (extractStridedSlice S32768x23x30 ![0, 1, 0] A slices_S32768x24x30_S32768x23x30_0_1_0)
        (shapeCast S50x30 (extractStridedSlice S50x30x1 ![0, 0, 1] W slices_S50x30x2_S50x30x1_0_0_1) shapeCasts_S50x30x1_S50x30)))
      (broadcastInDim S32768x23x50 ![0, 1, 2] bcast_S1x1x50_S32768x23x50_0_1_2 (broadcastInDim S1x1x50 ![2] bcast_S50_S1x1x50_2 b)))
      (broadcastInDim S32768x23x50 ![] bcast_S_S32768x23x50 (constant S_ .f32 0x00000000#32)))
    (constant S_ .f32 0xFF800000#32) reducesTo_S32768x23x50_S32768x50_d1 h_S_

/-- Those features at a word and a filter: the largest over the positions of the taps' sum with the bias, cut off at zero. -/
theorem pooled2_apply (A : FVec Ideal S32768x24x30 .f32) (W : FVec Ideal S50x30x2 .f32) (b : FVec Ideal S50 .f32) (n : Fin 32768) (f : Fin 50) :
    pooled2 A W b (ix2 n f)
      = Finset.univ.fold max ⊥ fun p : Fin 23 => max ((∑ d : Fin 30, A (ix3 n ⟨p.val, by omega⟩ d) * W (ix3 f d 0))
        + (∑ d : Fin 30, A (ix3 n ⟨p.val + 1, by omega⟩ d) * W (ix3 f d 1)) + b (ix1 f)) 0 := by
  have e1 : ∀ (p : Fin 23) h, (⟨1 + p.val, h⟩ : Fin 24) = ⟨p.val + 1, by omega⟩ := fun p h => Fin.ext (Nat.add_comm _ _)
  unfold pooled2
  pointwise
  simp only [bot_f32, e1]

/-- The reference's pooled features of width three, from the embedded words. -/
def pooled3 (A : FVec Ideal S32768x24x30 .f32) (W : FVec Ideal S50x30x3 .f32) (b : FVec Ideal S50 .f32) : FVec Ideal S32768x50 .f32 :=
  Host.reduce FloatOps.maximumf
    (maximumf (addf (addf (addf (Host.dotGeneral dot_S32768x22x30_S50x30_S32768x22x50_2_1_01_0_n_n none
        (extractStridedSlice S32768x22x30 ![0, 0, 0] A slices_S32768x24x30_S32768x22x30_0_0_0)
        (shapeCast S50x30 (extractStridedSlice S50x30x1 ![0, 0, 0] W slices_S50x30x3_S50x30x1_0_0_0) shapeCasts_S50x30x1_S50x30))
      (Host.dotGeneral dot_S32768x22x30_S50x30_S32768x22x50_2_1_01_0_n_n none
        (extractStridedSlice S32768x22x30 ![0, 1, 0] A slices_S32768x24x30_S32768x22x30_0_1_0)
        (shapeCast S50x30 (extractStridedSlice S50x30x1 ![0, 0, 1] W slices_S50x30x3_S50x30x1_0_0_1) shapeCasts_S50x30x1_S50x30)))
      (Host.dotGeneral dot_S32768x22x30_S50x30_S32768x22x50_2_1_01_0_n_n none
        (extractStridedSlice S32768x22x30 ![0, 2, 0] A slices_S32768x24x30_S32768x22x30_0_2_0)
        (shapeCast S50x30 (extractStridedSlice S50x30x1 ![0, 0, 2] W slices_S50x30x3_S50x30x1_0_0_2) shapeCasts_S50x30x1_S50x30)))
      (broadcastInDim S32768x22x50 ![0, 1, 2] bcast_S1x1x50_S32768x22x50_0_1_2 (broadcastInDim S1x1x50 ![2] bcast_S50_S1x1x50_2 b)))
      (broadcastInDim S32768x22x50 ![] bcast_S_S32768x22x50 (constant S_ .f32 0x00000000#32)))
    (constant S_ .f32 0xFF800000#32) reducesTo_S32768x22x50_S32768x50_d1 h_S_

/-- Those features at a word and a filter: the largest over the positions of the taps' sum with the bias, cut off at zero. -/
theorem pooled3_apply (A : FVec Ideal S32768x24x30 .f32) (W : FVec Ideal S50x30x3 .f32) (b : FVec Ideal S50 .f32) (n : Fin 32768) (f : Fin 50) :
    pooled3 A W b (ix2 n f)
      = Finset.univ.fold max ⊥ fun p : Fin 22 => max ((∑ d : Fin 30, A (ix3 n ⟨p.val, by omega⟩ d) * W (ix3 f d 0))
        + (∑ d : Fin 30, A (ix3 n ⟨p.val + 1, by omega⟩ d) * W (ix3 f d 1))
        + (∑ d : Fin 30, A (ix3 n ⟨p.val + 2, by omega⟩ d) * W (ix3 f d 2)) + b (ix1 f)) 0 := by
  have e1 : ∀ (p : Fin 22) h, (⟨1 + p.val, h⟩ : Fin 24) = ⟨p.val + 1, by omega⟩ := fun p h => Fin.ext (Nat.add_comm _ _)
  have e2 : ∀ (p : Fin 22) h, (⟨2 + p.val, h⟩ : Fin 24) = ⟨p.val + 2, by omega⟩ := fun p h => Fin.ext (Nat.add_comm _ _)
  unfold pooled3
  pointwise
  simp only [bot_f32, e1, e2]

/-- The reference's pooled features of width four, from the embedded words. -/
def pooled4 (A : FVec Ideal S32768x24x30 .f32) (W : FVec Ideal S50x30x4 .f32) (b : FVec Ideal S50 .f32) : FVec Ideal S32768x50 .f32 :=
  Host.reduce FloatOps.maximumf
    (maximumf (addf (addf (addf (addf (Host.dotGeneral dot_S32768x21x30_S50x30_S32768x21x50_2_1_01_0_n_n none
        (extractStridedSlice S32768x21x30 ![0, 0, 0] A slices_S32768x24x30_S32768x21x30_0_0_0)
        (shapeCast S50x30 (extractStridedSlice S50x30x1 ![0, 0, 0] W slices_S50x30x4_S50x30x1_0_0_0) shapeCasts_S50x30x1_S50x30))
      (Host.dotGeneral dot_S32768x21x30_S50x30_S32768x21x50_2_1_01_0_n_n none
        (extractStridedSlice S32768x21x30 ![0, 1, 0] A slices_S32768x24x30_S32768x21x30_0_1_0)
        (shapeCast S50x30 (extractStridedSlice S50x30x1 ![0, 0, 1] W slices_S50x30x4_S50x30x1_0_0_1) shapeCasts_S50x30x1_S50x30)))
      (Host.dotGeneral dot_S32768x21x30_S50x30_S32768x21x50_2_1_01_0_n_n none
        (extractStridedSlice S32768x21x30 ![0, 2, 0] A slices_S32768x24x30_S32768x21x30_0_2_0)
        (shapeCast S50x30 (extractStridedSlice S50x30x1 ![0, 0, 2] W slices_S50x30x4_S50x30x1_0_0_2) shapeCasts_S50x30x1_S50x30)))
      (Host.dotGeneral dot_S32768x21x30_S50x30_S32768x21x50_2_1_01_0_n_n none
        (extractStridedSlice S32768x21x30 ![0, 3, 0] A slices_S32768x24x30_S32768x21x30_0_3_0)
        (shapeCast S50x30 (extractStridedSlice S50x30x1 ![0, 0, 3] W slices_S50x30x4_S50x30x1_0_0_3) shapeCasts_S50x30x1_S50x30)))
      (broadcastInDim S32768x21x50 ![0, 1, 2] bcast_S1x1x50_S32768x21x50_0_1_2 (broadcastInDim S1x1x50 ![2] bcast_S50_S1x1x50_2 b)))
      (broadcastInDim S32768x21x50 ![] bcast_S_S32768x21x50 (constant S_ .f32 0x00000000#32)))
    (constant S_ .f32 0xFF800000#32) reducesTo_S32768x21x50_S32768x50_d1 h_S_

/-- Those features at a word and a filter: the largest over the positions of the taps' sum with the bias, cut off at zero. -/
theorem pooled4_apply (A : FVec Ideal S32768x24x30 .f32) (W : FVec Ideal S50x30x4 .f32) (b : FVec Ideal S50 .f32) (n : Fin 32768) (f : Fin 50) :
    pooled4 A W b (ix2 n f)
      = Finset.univ.fold max ⊥ fun p : Fin 21 => max ((∑ d : Fin 30, A (ix3 n ⟨p.val, by omega⟩ d) * W (ix3 f d 0))
        + (∑ d : Fin 30, A (ix3 n ⟨p.val + 1, by omega⟩ d) * W (ix3 f d 1))
        + (∑ d : Fin 30, A (ix3 n ⟨p.val + 2, by omega⟩ d) * W (ix3 f d 2))
        + (∑ d : Fin 30, A (ix3 n ⟨p.val + 3, by omega⟩ d) * W (ix3 f d 3)) + b (ix1 f)) 0 := by
  have e1 : ∀ (p : Fin 21) h, (⟨1 + p.val, h⟩ : Fin 24) = ⟨p.val + 1, by omega⟩ := fun p h => Fin.ext (Nat.add_comm _ _)
  have e2 : ∀ (p : Fin 21) h, (⟨2 + p.val, h⟩ : Fin 24) = ⟨p.val + 2, by omega⟩ := fun p h => Fin.ext (Nat.add_comm _ _)
  have e3 : ∀ (p : Fin 21) h, (⟨3 + p.val, h⟩ : Fin 24) = ⟨p.val + 3, by omega⟩ := fun p h => Fin.ext (Nat.add_comm _ _)
  unfold pooled4
  pointwise
  simp only [bot_f32, e1, e2, e3]

/-- The reference's result, in those terms. -/
theorem ref_eq (m : (ℓ : Loc nD τ sig) → Buf (Elt Ideal) ℓ) (c : Dev nD) :
    Cert.ReferenceIdeal.Value.res_main_v69 m c
      = shapeCast S64x512x150 (concatenate S32768x150 1
          [⟨S32768x50, pooled2 (embedded (m ((c.tc : Thread nD τ).loc main_arg1)) (m ((c.tc : Thread nD τ).loc main_arg0))) (m ((c.tc : Thread nD τ).loc main_arg2)) (m ((c.tc : Thread nD τ).loc main_arg3))⟩,
           ⟨S32768x50, pooled3 (embedded (m ((c.tc : Thread nD τ).loc main_arg1)) (m ((c.tc : Thread nD τ).loc main_arg0))) (m ((c.tc : Thread nD τ).loc main_arg4)) (m ((c.tc : Thread nD τ).loc main_arg5))⟩,
           ⟨S32768x50, pooled4 (embedded (m ((c.tc : Thread nD τ).loc main_arg1)) (m ((c.tc : Thread nD τ).loc main_arg0))) (m ((c.tc : Thread nD τ).loc main_arg6)) (m ((c.tc : Thread nD τ).loc main_arg7))⟩]
          concatenates_S32768x50_S32768x50_S32768x50_S32768x150_d1) shapeCasts_S32768x150_S64x512x150 := rfl

/-- The features of width two stand in the first fifty columns, those of width three and four in the next. -/
theorem joined_apply (u0 u1 u2 : FVec Ideal S32768x50 .f32) (B : Fin 64) (S : Fin 512) (f : Fin 150) :
    (shapeCast S64x512x150 (concatenate S32768x150 1 [⟨S32768x50, u0⟩, ⟨S32768x50, u1⟩, ⟨S32768x50, u2⟩]
      concatenates_S32768x50_S32768x50_S32768x50_S32768x150_d1) shapeCasts_S32768x150_S64x512x150) (ix3 B S f)
      = if h : f.val < 50 then u0 (ix2 ⟨B.val * 512 + S.val, by omega⟩ ⟨f.val, h⟩)
        else if h' : f.val - 50 < 50 then u1 (ix2 ⟨B.val * 512 + S.val, by omega⟩ ⟨f.val - 50, h'⟩)
        else u2 (ix2 ⟨B.val * 512 + S.val, by omega⟩ ⟨f.val - 50 - 50, by omega⟩) := by
  pointwise

/-- The gather read at an index: the row its start index names, when the table has that row. -/
theorem gather_row_apply (e : FVec Ideal S128x30 .f32) (I : IVec S32768x24x1 32) (n : Fin 32768) (p : Fin 24) (d : Fin 30)
    (hI : (I (ix3 n p 0)).toNat < 128) :
    Host.gather gather_S128x30_S32768x24x1_S32768x24x30_2_0_n_n_0_2_130 e I (ix3 n p d)
      = e (ix2 ⟨(I (ix3 n p 0)).toNat, hI⟩ d) := by
  let G := gather_S128x30_S32768x24x1_S32768x24x30_2_0_n_n_0_2_130
  unfold Host.gather
  refine congrArg e (funext fun a => Fin.ext ?_)
  show G.start (ix3 n p d) I a + G.batchCoord (ix3 n p d) a + G.offCoord (ix3 n p d) a = _
  match a with
  | ⟨0, _⟩ =>
    have hm : (0 : Fin 2) ∈ G.startIndexMap := List.mem_singleton.mpr rfl
    have hb : G.batchCoord (ix3 n p d) (0 : Fin 2) = 0 := GatherDims.batchCoord_eq_zero _ _ _ List.not_mem_nil
    have ho : G.offCoord (ix3 n p d) (0 : Fin 2) = 0 :=
      GatherDims.offCoord_eq_zero _ _ _ fun h => ((GatherDims.mem_sKept _ _).mp h).1 (List.mem_singleton.mpr rfl)
    have hs : G.start (ix3 n p d) I (0 : Fin 2) = (I (ix3 n p 0)).toNat := by
      unfold GatherDims.start
      rw [dif_pos hm]
      have hsi : G.siIdx (ix3 n p d) ⟨List.idxOf (0 : Fin 2) G.startIndexMap, List.idxOf_lt_length_iff.2 hm⟩ = ix3 n p 0 := by
        funext b
        refine Fin.ext ?_
        match b with
        | ⟨0, _⟩ => rfl
        | ⟨1, _⟩ => rfl
        | ⟨2, _⟩ => rfl
      rw [hsi]
      show min (I (ix3 n p 0)).toInt.toNat 127 = _
      have hi : (I (ix3 n p 0)).toInt = ((I (ix3 n p 0)).toNat : ℤ) := BitVec.toInt_eq_toNat_of_lt (by omega)
      rw [hi]
      omega
    show G.start (ix3 n p d) I (0 : Fin 2) + G.batchCoord (ix3 n p d) (0 : Fin 2) + G.offCoord (ix3 n p d) (0 : Fin 2) = _
    rw [hs, hb, ho]
    rfl
  | ⟨1, _⟩ =>
    have hb : G.batchCoord (ix3 n p d) (1 : Fin 2) = 0 := GatherDims.batchCoord_eq_zero _ _ _ List.not_mem_nil
    have hs : G.start (ix3 n p d) I (1 : Fin 2) = 0 := by
      unfold GatherDims.start
      exact dif_neg fun h => absurd (List.mem_singleton.mp h) (by decide)
    have ho : G.offCoord (ix3 n p d) (1 : Fin 2) = d.val := rfl
    show G.start (ix3 n p d) I (1 : Fin 2) + G.batchCoord (ix3 n p d) (1 : Fin 2) + G.offCoord (ix3 n p d) (1 : Fin 2) = _
    rw [hs, hb, ho, Nat.zero_add]
    rfl

/-- An identifier below 128 reaches the gather unchanged. -/
theorem refIds_apply (X : IVec S64x512x24 32) (B : Fin 64) (S : Fin 512) (p : Fin 24) (hX : (X (ix3 B S p)).toNat < 128) :
    refIds X (ix3 ⟨B.val * 512 + S.val, by omega⟩ p 0) = X (ix3 B S p) := by
  have h1 : (B.val * 512 + S.val) / 512 = B.val := by omega
  have h2 : (B.val * 512 + S.val) % 512 = S.val := by omega
  unfold refIds
  pointwise
  exact Routing.wrap_of_lt _ _ (hX.trans (by decide))

/-- The embedded words at a character: its row of the embedding. -/
theorem embedded_apply (e : FVec Ideal S128x30 .f32) (X : IVec S64x512x24 32) (B : Fin 64) (S : Fin 512) (p : Fin 24) (d : Fin 30)
    (hX : (X (ix3 B S p)).toNat < 128) :
    embedded e X (ix3 ⟨B.val * 512 + S.val, by omega⟩ p d) = e (ix2 ⟨(X (ix3 B S p)).toNat, hX⟩ d) := by
  have h := refIds_apply X B S p hX
  unfold embedded
  rw [gather_row_apply e _ _ p d (by rw [h]; exact hX)]
  simp only [h]

section Result
variable (m : (ℓ : Loc nD τ sig) → Buf (Elt Ideal) ℓ) (c : Dev nD)
  (hX : ∀ B S p, ((m ((c.tc : Thread nD τ).loc main_arg0) : IVec S64x512x24 32) (ix3 B S p)).toNat < 128)

/-- The reference's first fifty features of a word. -/
theorem ref_width2 (B : Fin 64) (S : Fin 512) (f : Fin 50) :
    Cert.ReferenceIdeal.Value.res_main_v69 m c (ix3 B S ⟨f.val, by omega⟩)
      = width2 (m ((c.tc : Thread nD τ).loc main_arg1)) (m ((c.tc : Thread nD τ).loc main_arg2)) (m ((c.tc : Thread nD τ).loc main_arg3))
          (wordChars (m ((c.tc : Thread nD τ).loc main_arg0)) hX B S) f := by
  have h : f.val < 50 := f.isLt
  rw [ref_eq, joined_apply]
  simp only [h, dite_true]
  rw [pooled2_apply]
  simp only [embedded_apply _ _ B S _ _ (hX B S _)]
  rfl

/-- Its next fifty. -/
theorem ref_width3 (B : Fin 64) (S : Fin 512) (f : Fin 50) :
    Cert.ReferenceIdeal.Value.res_main_v69 m c (ix3 B S ⟨50 + f.val, by omega⟩)
      = width3 (m ((c.tc : Thread nD τ).loc main_arg1)) (m ((c.tc : Thread nD τ).loc main_arg4)) (m ((c.tc : Thread nD τ).loc main_arg5))
          (wordChars (m ((c.tc : Thread nD τ).loc main_arg0)) hX B S) f := by
  have h0 : ¬ 50 + f.val < 50 := by omega
  have e : 50 + f.val - 50 = f.val := by omega
  have h : f.val < 50 := f.isLt
  rw [ref_eq, joined_apply]
  simp only [h0, e, h, dite_true, dite_false]
  rw [pooled3_apply]
  simp only [embedded_apply _ _ B S _ _ (hX B S _)]
  rfl

/-- Its last fifty. -/
theorem ref_width4 (B : Fin 64) (S : Fin 512) (f : Fin 50) :
    Cert.ReferenceIdeal.Value.res_main_v69 m c (ix3 B S ⟨100 + f.val, by omega⟩)
      = width4 (m ((c.tc : Thread nD τ).loc main_arg1)) (m ((c.tc : Thread nD τ).loc main_arg6)) (m ((c.tc : Thread nD τ).loc main_arg7))
          (wordChars (m ((c.tc : Thread nD τ).loc main_arg0)) hX B S) f := by
  have h0 : ¬ 100 + f.val < 50 := by omega
  have h1 : ¬ 100 + f.val - 50 < 50 := by omega
  have e : 100 + f.val - 50 - 50 = f.val := by omega
  rw [ref_eq, joined_apply]
  simp only [h0, h1, e, dite_false]
  rw [pooled4_apply]
  simp only [embedded_apply _ _ B S _ _ (hX B S _)]
  rfl

end Result

end Cert.CharConv
end
-- ==== Proof.Agree.lean ====
module

public import proofs.«01_k».proof.Proof.KernelValue
public import proofs.«01_k».proof.Proof.Reference

/-! The equation: from arguments that agree, the kernel's result and the reference's are the same array. -/

@[expose] public section

set_option maxRecDepth 16384

noncomputable section

namespace Cert.CharConv

open Idealize.ShloMosaic Idealize.ShloMosaic.TcCoe Idealize.SL.Sem

/-- A column of the result belongs to the filters of width two, three or four. -/
theorem column_cases (col : Fin 150) :
    (∃ f : Fin 50, col = ⟨f.val, by omega⟩) ∨ (∃ f : Fin 50, col = ⟨50 + f.val, by omega⟩)
      ∨ (∃ f : Fin 50, col = ⟨100 + f.val, by omega⟩) := by
  have h := col.isLt
  by_cases h0 : col.val < 50
  · exact .inl ⟨⟨col.val, h0⟩, rfl⟩
  by_cases h1 : col.val < 100
  · exact .inr (.inl ⟨⟨col.val - 50, by omega⟩, Fin.ext (by show col.val = 50 + (col.val - 50); omega)⟩)
  · exact .inr (.inr ⟨⟨col.val - 100, by omega⟩, Fin.ext (by show col.val = 100 + (col.val - 100); omega)⟩)

/-- Equal arrays of identifiers have the same words. -/
theorem wordChars_congr {X X' : IVec ⟨3, ![64, 512, 24]⟩ 32} (e : X' = X) (hX' hX) (B : Fin 64) (S : Fin 512) :
    wordChars X' hX' B S = wordChars X hX B S := by
  subst e
  rfl

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- From arguments that agree, with every identifier a row of the embedding, the two results agree in every entry. -/
theorem values_agree
    (hX : ∀ B S p, ((m ((c : Thread Cert.KernelIdeal.nD Cert.KernelIdeal.τ).loc Cert.KernelIdeal.main_arg0) :
      IVec ⟨3, ![64, 512, 24]⟩ 32) (ix3 B S p)).toNat < 128)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7)) :
    Cert.ReferenceIdeal.Value.res_main_v69 m' c
      = Cert.KernelIdeal.Gen.W6 m ρ c (Proc.devRef .tc Cert.KernelIdeal.main_v75) := by
  have hX' : ∀ B S p, ((m' ((c.tc : Thread Cert.ReferenceIdeal.nD Cert.ReferenceIdeal.τ).loc Cert.ReferenceIdeal.main_arg0) :
      IVec ⟨3, ![64, 512, 24]⟩ 32) (ix3 B S p)).toNat < 128 := fun B S p => by
    rw [congrFun h0 (ix3 B S p)]
    exact hX B S p
  have entry (B : Fin 64) (S : Fin 512) (col : Fin 150) :
      Cert.ReferenceIdeal.Value.res_main_v69 m' c (ix3 B S col)
        = Cert.KernelIdeal.Gen.W6 m ρ c (Proc.devRef .tc Cert.KernelIdeal.main_v75) (ix3 B S col) := by
    have hw := wordChars_congr h0 hX' hX B S
    rcases column_cases col with ⟨f, rfl⟩ | ⟨f, rfl⟩ | ⟨f, rfl⟩
    · refine (ref_width2 m' c hX' B S f).trans (Eq.trans ?_ (kernel_width2 m ρ c hX B S f).symm)
      rw [h1, h2, h3, hw]
    · refine (ref_width3 m' c hX' B S f).trans (Eq.trans ?_ (kernel_width3 m ρ c hX B S f).symm)
      rw [h1, h4, h5, hw]
    · refine (ref_width4 m' c hX' B S f).trans (Eq.trans ?_ (kernel_width4 m ρ c hX B S f).symm)
      rw [h1, h6, h7, hw]
  funext j
  have hj : (ix3 (j 0) (j 1) (j 2) : (⟨3, ![64, 512, 150]⟩ : Shape).Idx) = j := by
    funext d
    match d with
    | ⟨0, _⟩ => rfl
    | ⟨1, _⟩ => rfl
    | ⟨2, _⟩ => rfl
  exact (congrArg (Cert.ReferenceIdeal.Value.res_main_v69 m' c) hj.symm).trans
    ((entry (j 0) (j 1) (j 2)).trans
      (congrArg (Cert.KernelIdeal.Gen.W6 m ρ c (Proc.devRef .tc Cert.KernelIdeal.main_v75)) hj))

end Cert.CharConv
end
-- ==== Proof.KernelRun.lean ====
module

public import proofs.«01_k».proof.Proof.Gen.KernelIdeal.Frame

/-! The kernel's run with its result named: what the last host operation leaves, read off the buffers at the end. -/

@[expose] public section

set_option maxRecDepth 16384

noncomputable section

namespace Cert.CharConv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every execution of the kernel's program ends, with its result at what the last
host operation leaves of the main region's array, and its arguments unchanged. -/
theorem kernel_run : θ_run defs (onTc (τ := τ) (main (F := F))) ⟨m, fun _ => 0, ρ⟩ (fun r => ∀ c : Dev nD,
      r.2.mem ((c.tc : Thread nD τ).loc main_v75) = W6 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => fun c =>
      ⟨h c _ (mem_uc main_v75 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.CharConv
end
-- ==== Proof.Precondition.lean ====
module

public import proofs.«01_k».proof.Proof.Gen.Pre_ids_in_table
public import Idealize.ShloMosaic.Lib.Pointwise

/-! The precondition, read: every identifier names a row of the embedding. -/

@[expose] public section

noncomputable section

namespace Cert.CharConv

open Idealize.ShloMosaic

/-- Where the two comparisons hold of every identifier, each is below 128. -/
theorem ids_lt_of_pre (F : FTy → Type) [FloatOps F] (X : IVec ⟨3, ![64, 512, 24]⟩ 32) (a1 a2 a3 a4 a5 a6 a7)
    (h : Cert.Pre_ids_in_table.fn (F := F) X a1 a2 a3 a4 a5 a6 a7 = fun _ => 1#1) (B : Fin 64) (S : Fin 512) (p : Fin 24) :
    (X (ix3 B S p)).toNat < 128 := by
  have ofBool_and (p q : Bool) : IntOp.andi (BitVec.ofBool p) (BitVec.ofBool q) = BitVec.ofBool (p && q) := by
    cases p <;> cases q <;> decide
  have ofBool_one (p : Bool) : (BitVec.ofBool p = 1#1) ↔ p = true := by cases p <;> decide
  have e := congrFun h (ix3 B S p)
  simp only [Cert.Pre_ids_in_table.fn, andi, cmpi, broadcastInDim, constantI, IntOp.cmpi, ofBool_and, ofBool_one, Bool.and_eq_true] at e
  obtain ⟨hge, hlt⟩ := e
  simp only [BitVec.sle, BitVec.slt, decide_eq_true_eq, BitVec.toInt, BitVec.toNat_ofNat] at hge hlt
  omega

end Cert.CharConv
end
-- ==== Proof.lean ====
/- The certificate of the character-level word encoder: both programs' frames, and the equality of their results over
   the extended reals. The mathematics is in the modules under Proof/:
     MaxSum, Bias          facts about extended reals
     Features              the word features, as a formula
     Body, Block           what the main region's body computes for one block of words
     Arrays, HostArrays    what the arrays of the two regions and of the host hold
     Table, KernelValue    the kernel's result, entry by entry
     KernelRun             the kernel's run, with its result named
     Reference             the reference's result, entry by entry
     Precondition          what the precondition says
     Agree                 the equation -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_ids_in_table
public import proofs.«01_k».proof.Proof.Agree
public import proofs.«01_k».proof.Proof.KernelRun
public import proofs.«01_k».proof.Proof.Precondition
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs to its end, leaves its arguments as they were, and every semaphore counter at zero: it declares
no semaphore. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the extended reals, from arguments that agree and identifiers that all name rows of the embedding, the kernel
and the reference both run and end with the same result and their arguments unchanged. -/
theorem same_result : Cert.algebraic_KernelIdeal_ReferenceIdeal_pre_ids_in_table := by
  intro m ρ m' ρ' hpre hagree
  refine ⟨fun c => Cert.KernelIdeal.Gen.W6 m ρ c (Proc.devRef .tc Cert.KernelIdeal.main_v75),
    Cert.CharConv.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  exact Cert.CharConv.values_agree m ρ m' c (Cert.CharConv.ids_lt_of_pre Ideal _ _ _ _ _ _ _ _ (hpre c)) h0 h1 h2 h3 h4 h5 h6 h7

/-- All the claims: the three frames, with and without the precondition, the idealization, and the equality of the
results. -/
theorem claim : Cert.Claim :=
  ⟨Cert.Kernel.Gen.facts, Cert.KernelIdeal.Gen.facts, Cert.ReferenceIdeal.Gen.facts, Cert.Pre_ids_in_table.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    same_result⟩

end Cert.Proof

end
